-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sphere_init [hPre_sphere_init : Cert.Pre_sphere_init.Facts] (m : (ℓ : Loc Cert.KernelIdeal.nD Cert.KernelIdeal.τ Cert.KernelIdeal.sig) → Buf (Elt Ideal) ℓ) : Prop :=
  ∀ c : Dev Cert.KernelIdeal.nD,
    (Cert.Pre_sphere_init.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_sphere_init.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sphere_init [hPre_sphere_init : Cert.Pre_sphere_init.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sphere_init.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_sphere_init.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sphere_init [hKernelIdeal : Cert.KernelIdeal.Facts] [hPre_sphere_init : Cert.Pre_sphere_init.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sphere_init m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sphere_init [hReferenceIdeal : Cert.ReferenceIdeal.Facts] [hPre_sphere_init : Cert.Pre_sphere_init.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sphere_init m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "nlog2e100" .f32 0xC31044FE#32 ((-(100 * (Real.log 2)⁻¹) : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "ln2_100" .f32 0x3BE32166#32 (((Real.log 2) * (1 / 100) : ℝ) : EReal)

def algebraic_KernelIdeal_ReferenceIdeal_pre_sphere_init [hKernelIdeal : Cert.KernelIdeal.Facts] [hReferenceIdeal : Cert.ReferenceIdeal.Facts] [hPre_sphere_init : Cert.Pre_sphere_init.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sphere_init m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v949) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sphere_init : Cert.Pre_sphere_init.Facts),
    quiescent_Kernel (hKernel := hKernel)
    ∧ quiescent_KernelIdeal (hKernelIdeal := hKernelIdeal)
    ∧ quiescent_KernelIdeal_pre_sphere_init (hKernelIdeal := hKernelIdeal) (hPre_sphere_init := hPre_sphere_init)
    ∧ quiescent_ReferenceIdeal (hReferenceIdeal := hReferenceIdeal)
    ∧ quiescent_ReferenceIdeal_pre_sphere_init (hReferenceIdeal := hReferenceIdeal) (hPre_sphere_init := hPre_sphere_init)
    ∧ preserves_Kernel_KernelIdeal
    ∧ algebraic_KernelIdeal_ReferenceIdeal_pre_sphere_init (hKernelIdeal := hKernelIdeal) (hReferenceIdeal := hReferenceIdeal) (hPre_sphere_init := hPre_sphere_init)
-- ==== Pre_sphere_init.lean ====
abbrev S1048576x3 : Shape := ⟨2, ![1048576, 3]⟩
abbrev S16x524288x2 : Shape := ⟨3, ![16, 524288, 2]⟩
abbrev S64x35 : Shape := ⟨2, ![64, 35]⟩
abbrev S64 : Shape := ⟨1, ![64]⟩
abbrev S1x64 : Shape := ⟨2, ![1, 64]⟩
abbrev S1 : Shape := ⟨1, ![1]⟩
abbrev S64x32 : Shape := ⟨2, ![64, 32]⟩
abbrev S_ : Shape := ⟨0, ![]⟩

class Facts : Prop where
  slices_S64x35_S64x32_0_3 : S64x35.Slices ![0, 3] S64x32
  bcast_S_S64x32 : S_.BroadcastsInDim S64x32 (![] : Fin 0 → Fin S64x32.rank)
  reducesTo_S64x35_S64_d1 : S64x35.ReducesTo [1] S64
  h_S_ : 0 < S_.numel
  bcast_S_S64 : S_.BroadcastsInDim S64 (![] : Fin 0 → Fin S64.rank)

variable [Facts]

def fn {F : FTy → Type} [FloatOps F] (main_arg0 : FVec F S1048576x3 .f32) (main_arg1 : FVec F S16x524288x2 .f32) (main_arg2 : FVec F S64x35 .f32) (main_arg3 : FVec F S64 .f32) (main_arg4 : FVec F S64 .f32) (main_arg5 : FVec F S1x64 .f32) (main_arg6 : FVec F S1 .f32) (main_arg7 : FVec F S1 .f32) : IVec S64x32 1 × IVec S64 1 :=
  let main_v0 : FVec F S64x32 .f32 := (extractStridedSlice S64x32 ![0, 3] · slices_S64x35_S64x32_0_3) main_arg2
  let main_cst : FVec F S_ .f32 := constant S_ .f32 0x00000000#32
  let main_v1 : FVec F S64x32 .f32 := broadcastInDim S64x32 ![] bcast_S_S64x32 main_cst
  let main_v2 : IVec S64x32 1 := cmpf .oeq main_v0 main_v1
  let main_v3 : FVec F S64x35 .f32 := mulf main_arg2 main_arg2
  let main_cst_0 : FVec F S_ .f32 := constant S_ .f32 0x00000000#32
  let main_v4 : FVec F S64 .f32 := (fun x v => Host.reduceAdd x v reducesTo_S64x35_S64_d1 h_S_) main_v3 main_cst_0
  let main_cst_1 : FVec F S_ .f32 := constant S_ .f32 0x00000000#32
  let main_v5 : FVec F S64 .f32 := broadcastInDim S64 ![] bcast_S_S64 main_cst_1
  let main_v6 : IVec S64 1 := cmpf .ogt main_v4 main_v5
  (main_v2, main_v6)
-- ==== Kernel.lean ====
abbrev S1048576x3 : Shape := ⟨2, ![1048576, 3]⟩
abbrev S16x524288x2 : Shape := ⟨3, ![16, 524288, 2]⟩
abbrev S64x35 : Shape := ⟨2, ![64, 35]⟩
abbrev S64 : Shape := ⟨1, ![64]⟩
abbrev S1x64 : Shape := ⟨2, ![1, 64]⟩
abbrev S1 : Shape := ⟨1, ![1]⟩
abbrev S64x1 : Shape := ⟨2, ![64, 1]⟩
abbrev S_ : Shape := ⟨0, ![]⟩
abbrev S64x3 : Shape := ⟨2, ![64, 3]⟩
abbrev S1x1 : Shape := ⟨2, ![1, 1]⟩
abbrev S64x4 : Shape := ⟨2, ![64, 4]⟩
abbrev S3x1048576 : Shape := ⟨2, ![3, 1048576]⟩
abbrev S1x1048576 : Shape := ⟨2, ![1, 1048576]⟩
abbrev S4x1048576 : Shape := ⟨2, ![4, 1048576]⟩
abbrev S1048576 : Shape := ⟨1, ![1048576]⟩
abbrev S4x65536 : Shape := ⟨2, ![4, 65536]⟩
abbrev S65536 : Shape := ⟨1, ![65536]⟩
abbrev S64x65536 : Shape := ⟨2, ![64, 65536]⟩
abbrev S1x65536 : Shape := ⟨2, ![1, 65536]⟩

abbrev nBuf : Space → Nat
  | .hbm => 44
  | .vmem => 6
  | .smem => 1
  | _ => 0

abbrev bufTy : (tb : Table) → Fin (tcTables nBuf tb) → BufTy
  | .hbm, ⟨0, _⟩ => ⟨S1048576x3, .f32⟩
  | .hbm, ⟨1, _⟩ => ⟨S16x524288x2, .f32⟩
  | .hbm, ⟨2, _⟩ => ⟨S64x35, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S1, .f32⟩
  | .hbm, ⟨8, _⟩ => ⟨S64x1, .f32⟩
  | .hbm, ⟨9, _⟩ => ⟨S64x35, .f32⟩
  | .hbm, ⟨10, _⟩ => ⟨S64x35, .f32⟩
  | .hbm, ⟨11, _⟩ => ⟨S64x35, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S64x1, .f32⟩
  | .hbm, ⟨16, _⟩ => ⟨S64x35, .f32⟩
  | .hbm, ⟨17, _⟩ => ⟨S64x35, .f32⟩
  | .hbm, ⟨18, _⟩ => ⟨S64x3, .f32⟩
  | .hbm, ⟨19, _⟩ => ⟨S1x1, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S_, .f32⟩
  | .hbm, ⟨24, _⟩ => ⟨S1, .f32⟩
  | .hbm, ⟨25, _⟩ => ⟨S1x1, .f32⟩
  | .hbm, ⟨26, _⟩ => ⟨S1x1, .f32⟩
  | .hbm, ⟨27, _⟩ => ⟨S1x64, .f32⟩
  | .hbm, ⟨28, _⟩ => ⟨S1x64, .f32⟩
  | .hbm, ⟨29, _⟩ => ⟨S64x1, .f32⟩
  | .hbm, ⟨30, _⟩ => ⟨S64x4, .f32⟩
  | .hbm, ⟨31, _⟩ => ⟨S64x4, .bf16⟩
  | .hbm, ⟨32, _⟩ => ⟨S_, .f32⟩
  | .hbm, ⟨33, _⟩ => ⟨S1048576x3, .f32⟩
  | .hbm, ⟨34, _⟩ => ⟨S1048576x3, .f32⟩
  | .hbm, ⟨35, _⟩ => ⟨S_, .f32⟩
  | .hbm, ⟨36, _⟩ => ⟨S1048576x3, .f32⟩
  | .hbm, ⟨37, _⟩ => ⟨S1048576x3, .f32⟩
  | .hbm, ⟨38, _⟩ => ⟨S1048576x3, .bf16⟩
  | .hbm, ⟨39, _⟩ => ⟨S3x1048576, .bf16⟩
  | .hbm, ⟨40, _⟩ => ⟨S_, .bf16⟩
  | .hbm, ⟨41, _⟩ => ⟨S1x1048576, .bf16⟩
  | .hbm, ⟨42, _⟩ => ⟨S4x1048576, .bf16⟩
  | .hbm, ⟨43, _⟩ => ⟨S1048576, .f32⟩
  | .local _ .vmem, ⟨0, _⟩ => ⟨S4x65536, .bf16⟩
  | .local _ .vmem, ⟨1, _⟩ => ⟨S4x65536, .bf16⟩
  | .local _ .vmem, ⟨2, _⟩ => ⟨S64x4, .bf16⟩
  | .local _ .vmem, ⟨3, _⟩ => ⟨S1x64, .f32⟩
  | .local _ .vmem, ⟨4, _⟩ => ⟨S65536, .f32⟩
  | .local _ .vmem, ⟨5, _⟩ => ⟨S65536, .f32⟩
  | .local _ .smem, ⟨0, _⟩ => ⟨S1, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4x65536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_ln2" => some (((Real.log 2)⁻¹ : ℝ) : EReal)
  | "ln2_100" => some (((Real.log 2) * (1 / 100) : ℝ) : EReal)
  | "nlog2e100" => some ((-(100 * (Real.log 2)⁻¹) : ℝ) : EReal)
  | _ => none
-- ==== ReferenceIdeal.lean ====
abbrev S1048576x3 : Shape := ⟨2, ![1048576, 3]⟩
abbrev S16x524288x2 : Shape := ⟨3, ![16, 524288, 2]⟩
abbrev S64x35 : Shape := ⟨2, ![64, 35]⟩
abbrev S64 : Shape := ⟨1, ![64]⟩
abbrev S1x64 : Shape := ⟨2, ![1, 64]⟩
abbrev S1 : Shape := ⟨1, ![1]⟩
abbrev S8x3 : Shape := ⟨2, ![8, 3]⟩
abbrev S_ : Shape := ⟨0, ![]⟩
abbrev S1048576x1x3 : Shape := ⟨3, ![1048576, 1, 3]⟩
abbrev S1x8x3 : Shape := ⟨3, ![1, 8, 3]⟩
abbrev S1048576x8x3 : Shape := ⟨3, ![1048576, 8, 3]⟩
abbrev S1048576x8x1 : Shape := ⟨3, ![1048576, 8, 1]⟩
abbrev S1048576x8 : Shape := ⟨2, ![1048576, 8]⟩
abbrev S1x524288x2 : Shape := ⟨3, ![1, 524288, 2]⟩
abbrev S524288x2 : Shape := ⟨2, ![524288, 2]⟩
abbrev S1048576x8x2 : Shape := ⟨3, ![1048576, 8, 2]⟩
abbrev S1048576x2 : Shape := ⟨2, ![1048576, 2]⟩
abbrev S1048576x32 : Shape := ⟨2, ![1048576, 32]⟩
abbrev S1048576x35 : Shape := ⟨2, ![1048576, 35]⟩
abbrev S64x1 : Shape := ⟨2, ![64, 1]⟩
abbrev S35x64 : Shape := ⟨2, ![35, 64]⟩
abbrev S1048576x64 : Shape := ⟨2, ![1048576, 64]⟩
abbrev S1x1 : Shape := ⟨2, ![1, 1]⟩
abbrev S1048576x1 : Shape := ⟨2, ![1048576, 1]⟩
abbrev S1048576 : Shape := ⟨1, ![1048576]⟩

abbrev nBuf : Space → Nat
  | .hbm => 1528
  | .vmem => 0
  | .smem => 0
  | _ => 0

abbrev hbmTy0_0 (i : Nat) : BufTy := match i % 128 with
  | 0 => ⟨S1048576x3, .f32⟩
  | 1 => ⟨S16x524288x2, .f32⟩
  | 2 => ⟨S64x35, .f32⟩
  | 3 => ⟨S64, .f32⟩
  | 4 => ⟨S64, .f32⟩
  | 5 => ⟨S1x64, .f32⟩
  | 6 => ⟨S1, .f32⟩
  | 7 => ⟨S1, .f32⟩
  | 8 => ⟨S8x3, .i32⟩
  | 9 => ⟨S_, .f32⟩
  | 10 => ⟨S1048576x3, .f32⟩
  | 11 => ⟨S1048576x3, .f32⟩
  | 12 => ⟨S_, .f32⟩
  | 13 => ⟨S1048576x3, .f32⟩
  | 14 => ⟨S1048576x3, .f32⟩
  | 15 => ⟨S_, .f32⟩
  | 16 => ⟨S1048576x3, .f32⟩
  | 17 => ⟨S1048576x3, .f32⟩
  | 18 => ⟨S1048576x3, .f32⟩
  | 19 => ⟨S1048576x3, .i32⟩
  | 20 => ⟨S_, .i32⟩
  | 21 => ⟨S_, .i32⟩
  | 22 => ⟨S_, .i32⟩
  | 23 => ⟨S1048576x3, .i32⟩
  | 24 => ⟨S1048576x3, .i32⟩
  | 25 => ⟨S_, .i32⟩
  | 26 => ⟨S1048576x3, .i32⟩
  | 27 => ⟨S1048576x3, .i32⟩
  | 28 => ⟨S1048576x3, .f32⟩
  | 29 => ⟨S1048576x3, .f32⟩
  | 30 => ⟨S1048576x1x3, .i32⟩
  | 31 => ⟨S1x8x3, .i32⟩
  | 32 => ⟨S1048576x8x3, .i32⟩
  | 33 => ⟨S1048576x8x3, .i32⟩
  | 34 => ⟨S1048576x8x3, .i32⟩
  | 35 => ⟨S1048576x8x1, .i32⟩
  | 36 => ⟨S1048576x8, .i32⟩
  | 37 => ⟨S1048576x8x1, .i32⟩
  | 38 => ⟨S1048576x8, .i32⟩
  | 39 => ⟨S_, .i32⟩
  | 40 => ⟨S1048576x8, .i32⟩
  | 41 => ⟨S1048576x8, .i32⟩
  | 42 => ⟨S1048576x8, .i32⟩
  | 43 => ⟨S1048576x8x1, .i32⟩
  | 44 => ⟨S1048576x8, .i32⟩
  | 45 => ⟨S_, .i32⟩
  | 46 => ⟨S1048576x8, .i32⟩
  | 47 => ⟨S1048576x8, .i32⟩
  | 48 => ⟨S_, .i32⟩
  | 49 => ⟨S1048576x8, .i32⟩
  | 50 => ⟨S1048576x8, .i32⟩
  | 51 => ⟨S1048576x8, .i32⟩
  | 52 => ⟨S1x524288x2, .f32⟩
  | 53 => ⟨S524288x2, .f32⟩
  | 54 => ⟨S_, .i32⟩
  | 55 => ⟨S1048576x8, .i32⟩
  | 56 => ⟨S1048576x8, .i1⟩
  | 57 => ⟨S_, .i32⟩
  | 58 => ⟨S1048576x8, .i32⟩
  | 59 => ⟨S1048576x8, .i32⟩
  | 60 => ⟨S1048576x8, .i32⟩
  | 61 => ⟨S1048576x8x1, .i32⟩
  | 62 => ⟨S1048576x8x2, .f32⟩
  | 63 => ⟨S1x8x3, .i32⟩
  | 64 => ⟨S_, .i32⟩
  | 65 => ⟨S1x8x3, .i32⟩
  | 66 => ⟨S1x8x3, .i1⟩
  | 67 => ⟨S1048576x1x3, .f32⟩
  | 68 => ⟨S1048576x1x3, .f32⟩
  | 69 => ⟨S_, .f32⟩
  | 70 => ⟨S1048576x1x3, .f32⟩
  | 71 => ⟨S1048576x1x3, .f32⟩
  | 72 => ⟨S1048576x8x3, .i1⟩
  | 73 => ⟨S1048576x8x3, .f32⟩
  | 74 => ⟨S1048576x8x3, .f32⟩
  | 75 => ⟨S1048576x8x3, .f32⟩
  | 76 => ⟨S1048576x8x1, .f32⟩
  | 77 => ⟨S1048576x8, .f32⟩
  | 78 => ⟨S1048576x8x1, .f32⟩
  | 79 => ⟨S1048576x8, .f32⟩
  | 80 => ⟨S1048576x8, .f32⟩
  | 81 => ⟨S1048576x8x1, .f32⟩
  | 82 => ⟨S1048576x8, .f32⟩
  | 83 => ⟨S1048576x8, .f32⟩
  | 84 => ⟨S1048576x8x1, .f32⟩
  | 85 => ⟨S1048576x8x2, .f32⟩
  | 86 => ⟨S1048576x8x2, .f32⟩
  | 87 => ⟨S_, .f32⟩
  | 88 => ⟨S1048576x2, .f32⟩
  | 89 => ⟨S_, .f32⟩
  | 90 => ⟨S1048576x3, .f32⟩
  | 91 => ⟨S1048576x3, .f32⟩
  | 92 => ⟨S1048576x3, .f32⟩
  | 93 => ⟨S1048576x3, .i32⟩
  | 94 => ⟨S_, .i32⟩
  | 95 => ⟨S_, .i32⟩
  | 96 => ⟨S_, .i32⟩
  | 97 => ⟨S1048576x3, .i32⟩
  | 98 => ⟨S1048576x3, .i32⟩
  | 99 => ⟨S_, .i32⟩
  | 100 => ⟨S1048576x3, .i32⟩
  | 101 => ⟨S1048576x3, .i32⟩
  | 102 => ⟨S1048576x3, .f32⟩
  | 103 => ⟨S1048576x3, .f32⟩
  | 104 => ⟨S1048576x1x3, .i32⟩
  | 105 => ⟨S1x8x3, .i32⟩
  | 106 => ⟨S1048576x8x3, .i32⟩
  | 107 => ⟨S1048576x8x3, .i32⟩
  | 108 => ⟨S1048576x8x3, .i32⟩
  | 109 => ⟨S1048576x8x1, .i32⟩
  | 110 => ⟨S1048576x8, .i32⟩
  | 111 => ⟨S1048576x8x1, .i32⟩
  | 112 => ⟨S1048576x8, .i32⟩
  | 113 => ⟨S_, .i32⟩
  | 114 => ⟨S1048576x8, .i32⟩
  | 115 => ⟨S1048576x8, .i32⟩
  | 116 => ⟨S1048576x8, .i32⟩
  | 117 => ⟨S1048576x8x1, .i32⟩
  | 118 => ⟨S1048576x8, .i32⟩
  | 119 => ⟨S_, .i32⟩
  | 120 => ⟨S1048576x8, .i32⟩
  | 121 => ⟨S1048576x8, .i32⟩
  | 122 => ⟨S_, .i32⟩
  | 123 => ⟨S1048576x8, .i32⟩
  | 124 => ⟨S1048576x8, .i32⟩
  | 125 => ⟨S1048576x8, .i32⟩
  | 126 => ⟨S1x524288x2, .f32⟩
  | 127 => ⟨S524288x2, .f32⟩
  | _ => ⟨S1048576x3, .f32⟩

abbrev hbmTy0_1 (i : Nat) : BufTy := match i % 128 with
  | 0 => ⟨S_, .i32⟩
  | 1 => ⟨S1048576x8, .i32⟩
  | 2 => ⟨S1048576x8, .i1⟩
  | 3 => ⟨S_, .i32⟩
  | 4 => ⟨S1048576x8, .i32⟩
  | 5 => ⟨S1048576x8, .i32⟩
  | 6 => ⟨S1048576x8, .i32⟩
  | 7 => ⟨S1048576x8x1, .i32⟩
  | 8 => ⟨S1048576x8x2, .f32⟩
  | 9 => ⟨S1x8x3, .i32⟩
  | 10 => ⟨S_, .i32⟩
  | 11 => ⟨S1x8x3, .i32⟩
  | 12 => ⟨S1x8x3, .i1⟩
  | 13 => ⟨S1048576x1x3, .f32⟩
  | 14 => ⟨S1048576x1x3, .f32⟩
  | 15 => ⟨S_, .f32⟩
  | 16 => ⟨S1048576x1x3, .f32⟩
  | 17 => ⟨S1048576x1x3, .f32⟩
  | 18 => ⟨S1048576x8x3, .i1⟩
  | 19 => ⟨S1048576x8x3, .f32⟩
  | 20 => ⟨S1048576x8x3, .f32⟩
  | 21 => ⟨S1048576x8x3, .f32⟩
  | 22 => ⟨S1048576x8x1, .f32⟩
  | 23 => ⟨S1048576x8, .f32⟩
  | 24 => ⟨S1048576x8x1, .f32⟩
  | 25 => ⟨S1048576x8, .f32⟩
  | 26 => ⟨S1048576x8, .f32⟩
  | 27 => ⟨S1048576x8x1, .f32⟩
  | 28 => ⟨S1048576x8, .f32⟩
  | 29 => ⟨S1048576x8, .f32⟩
  | 30 => ⟨S1048576x8x1, .f32⟩
  | 31 => ⟨S1048576x8x2, .f32⟩
  | 32 => ⟨S1048576x8x2, .f32⟩
  | 33 => ⟨S_, .f32⟩
  | 34 => ⟨S1048576x2, .f32⟩
  | 35 => ⟨S_, .f32⟩
  | 36 => ⟨S1048576x3, .f32⟩
  | 37 => ⟨S1048576x3, .f32⟩
  | 38 => ⟨S1048576x3, .f32⟩
  | 39 => ⟨S1048576x3, .i32⟩
  | 40 => ⟨S_, .i32⟩
  | 41 => ⟨S_, .i32⟩
  | 42 => ⟨S_, .i32⟩
  | 43 => ⟨S1048576x3, .i32⟩
  | 44 => ⟨S1048576x3, .i32⟩
  | 45 => ⟨S_, .i32⟩
  | 46 => ⟨S1048576x3, .i32⟩
  | 47 => ⟨S1048576x3, .i32⟩
  | 48 => ⟨S1048576x3, .f32⟩
  | 49 => ⟨S1048576x3, .f32⟩
  | 50 => ⟨S1048576x1x3, .i32⟩
  | 51 => ⟨S1x8x3, .i32⟩
  | 52 => ⟨S1048576x8x3, .i32⟩
  | 53 => ⟨S1048576x8x3, .i32⟩
  | 54 => ⟨S1048576x8x3, .i32⟩
  | 55 => ⟨S1048576x8x1, .i32⟩
  | 56 => ⟨S1048576x8, .i32⟩
  | 57 => ⟨S1048576x8x1, .i32⟩
  | 58 => ⟨S1048576x8, .i32⟩
  | 59 => ⟨S_, .i32⟩
  | 60 => ⟨S1048576x8, .i32⟩
  | 61 => ⟨S1048576x8, .i32⟩
  | 62 => ⟨S1048576x8, .i32⟩
  | 63 => ⟨S1048576x8x1, .i32⟩
  | 64 => ⟨S1048576x8, .i32⟩
  | 65 => ⟨S_, .i32⟩
  | 66 => ⟨S1048576x8, .i32⟩
  | 67 => ⟨S1048576x8, .i32⟩
  | 68 => ⟨S_, .i32⟩
  | 69 => ⟨S1048576x8, .i32⟩
  | 70 => ⟨S1048576x8, .i32⟩
  | 71 => ⟨S1048576x8, .i32⟩
  | 72 => ⟨S1x524288x2, .f32⟩
  | 73 => ⟨S524288x2, .f32⟩
  | 74 => ⟨S_, .i32⟩
  | 75 => ⟨S1048576x8, .i32⟩
  | 76 => ⟨S1048576x8, .i1⟩
  | 77 => ⟨S_, .i32⟩
  | 78 => ⟨S1048576x8, .i32⟩
  | 79 => ⟨S1048576x8, .i32⟩
  | 80 => ⟨S1048576x8, .i32⟩
  | 81 => ⟨S1048576x8x1, .i32⟩
  | 82 => ⟨S1048576x8x2, .f32⟩
  | 83 => ⟨S1x8x3, .i32⟩
  | 84 => ⟨S_, .i32⟩
  | 85 => ⟨S1x8x3, .i32⟩
  | 86 => ⟨S1x8x3, .i1⟩
  | 87 => ⟨S1048576x1x3, .f32⟩
  | 88 => ⟨S1048576x1x3, .f32⟩
  | 89 => ⟨S_, .f32⟩
  | 90 => ⟨S1048576x1x3, .f32⟩
  | 91 => ⟨S1048576x1x3, .f32⟩
  | 92 => ⟨S1048576x8x3, .i1⟩
  | 93 => ⟨S1048576x8x3, .f32⟩
  | 94 => ⟨S1048576x8x3, .f32⟩
  | 95 => ⟨S1048576x8x3, .f32⟩
  | 96 => ⟨S1048576x8x1, .f32⟩
  | 97 => ⟨S1048576x8, .f32⟩
  | 98 => ⟨S1048576x8x1, .f32⟩
  | 99 => ⟨S1048576x8, .f32⟩
  | 100 => ⟨S1048576x8, .f32⟩
  | 101 => ⟨S1048576x8x1, .f32⟩
  | 102 => ⟨S1048576x8, .f32⟩
  | 103 => ⟨S1048576x8, .f32⟩
  | 104 => ⟨S1048576x8x1, .f32⟩
  | 105 => ⟨S1048576x8x2, .f32⟩
  | 106 => ⟨S1048576x8x2, .f32⟩
  | 107 => ⟨S_, .f32⟩
  | 108 => ⟨S1048576x2, .f32⟩
  | 109 => ⟨S_, .f32⟩
  | 110 => ⟨S1048576x3, .f32⟩
  | 111 => ⟨S1048576x3, .f32⟩
  | 112 => ⟨S1048576x3, .f32⟩
  | 113 => ⟨S1048576x3, .i32⟩
  | 114 => ⟨S_, .i32⟩
  | 115 => ⟨S_, .i32⟩
  | 116 => ⟨S_, .i32⟩
  | 117 => ⟨S1048576x3, .i32⟩
  | 118 => ⟨S1048576x3, .i32⟩
  | 119 => ⟨S_, .i32⟩
  | 120 => ⟨S1048576x3, .i32⟩
  | 121 => ⟨S1048576x3, .i32⟩
  | 122 => ⟨S1048576x3, .f32⟩
  | 123 => ⟨S1048576x3, .f32⟩
  | 124 => ⟨S1048576x1x3, .i32⟩
  | 125 => ⟨S1x8x3, .i32⟩
  | 126 => ⟨S1048576x8x3, .i32⟩
  | 127 => ⟨S1048576x8x3, .i32⟩
  | _ => ⟨S1048576x3, .f32⟩

abbrev hbmTy0_2 (i : Nat) : BufTy := match i % 128 with
  | 0 => ⟨S1048576x8x3, .i32⟩
  | 1 => ⟨S1048576x8x1, .i32⟩
  | 2 => ⟨S1048576x8, .i32⟩
  | 3 => ⟨S1048576x8x1, .i32⟩
  | 4 => ⟨S1048576x8, .i32⟩
  | 5 => ⟨S_, .i32⟩
  | 6 => ⟨S1048576x8, .i32⟩
  | 7 => ⟨S1048576x8, .i32⟩
  | 8 => ⟨S1048576x8, .i32⟩
  | 9 => ⟨S1048576x8x1, .i32⟩
  | 10 => ⟨S1048576x8, .i32⟩
  | 11 => ⟨S_, .i32⟩
  | 12 => ⟨S1048576x8, .i32⟩
  | 13 => ⟨S1048576x8, .i32⟩
  | 14 => ⟨S_, .i32⟩
  | 15 => ⟨S1048576x8, .i32⟩
  | 16 => ⟨S1048576x8, .i32⟩
  | 17 => ⟨S1048576x8, .i32⟩
  | 18 => ⟨S1x524288x2, .f32⟩
  | 19 => ⟨S524288x2, .f32⟩
  | 20 => ⟨S_, .i32⟩
  | 21 => ⟨S1048576x8, .i32⟩
  | 22 => ⟨S1048576x8, .i1⟩
  | 23 => ⟨S_, .i32⟩
  | 24 => ⟨S1048576x8, .i32⟩
  | 25 => ⟨S1048576x8, .i32⟩
  | 26 => ⟨S1048576x8, .i32⟩
  | 27 => ⟨S1048576x8x1, .i32⟩
  | 28 => ⟨S1048576x8x2, .f32⟩
  | 29 => ⟨S1x8x3, .i32⟩
  | 30 => ⟨S_, .i32⟩
  | 31 => ⟨S1x8x3, .i32⟩
  | 32 => ⟨S1x8x3, .i1⟩
  | 33 => ⟨S1048576x1x3, .f32⟩
  | 34 => ⟨S1048576x1x3, .f32⟩
  | 35 => ⟨S_, .f32⟩
  | 36 => ⟨S1048576x1x3, .f32⟩
  | 37 => ⟨S1048576x1x3, .f32⟩
  | 38 => ⟨S1048576x8x3, .i1⟩
  | 39 => ⟨S1048576x8x3, .f32⟩
  | 40 => ⟨S1048576x8x3, .f32⟩
  | 41 => ⟨S1048576x8x3, .f32⟩
  | 42 => ⟨S1048576x8x1, .f32⟩
  | 43 => ⟨S1048576x8, .f32⟩
  | 44 => ⟨S1048576x8x1, .f32⟩
  | 45 => ⟨S1048576x8, .f32⟩
  | 46 => ⟨S1048576x8, .f32⟩
  | 47 => ⟨S1048576x8x1, .f32⟩
  | 48 => ⟨S1048576x8, .f32⟩
  | 49 => ⟨S1048576x8, .f32⟩
  | 50 => ⟨S1048576x8x1, .f32⟩
  | 51 => ⟨S1048576x8x2, .f32⟩
  | 52 => ⟨S1048576x8x2, .f32⟩
  | 53 => ⟨S_, .f32⟩
  | 54 => ⟨S1048576x2, .f32⟩
  | 55 => ⟨S_, .f32⟩
  | 56 => ⟨S1048576x3, .f32⟩
  | 57 => ⟨S1048576x3, .f32⟩
  | 58 => ⟨S1048576x3, .f32⟩
  | 59 => ⟨S1048576x3, .i32⟩
  | 60 => ⟨S_, .i32⟩
  | 61 => ⟨S_, .i32⟩
  | 62 => ⟨S_, .i32⟩
  | 63 => ⟨S1048576x3, .i32⟩
  | 64 => ⟨S1048576x3, .i32⟩
  | 65 => ⟨S_, .i32⟩
  | 66 => ⟨S1048576x3, .i32⟩
  | 67 => ⟨S1048576x3, .i32⟩
  | 68 => ⟨S1048576x3, .f32⟩
  | 69 => ⟨S1048576x3, .f32⟩
  | 70 => ⟨S1048576x1x3, .i32⟩
  | 71 => ⟨S1x8x3, .i32⟩
  | 72 => ⟨S1048576x8x3, .i32⟩
  | 73 => ⟨S1048576x8x3, .i32⟩
  | 74 => ⟨S1048576x8x3, .i32⟩
  | 75 => ⟨S1048576x8x3, .i32⟩
  | 76 => ⟨S1048576x8x1, .i32⟩
  | 77 => ⟨S1048576x8, .i32⟩
  | 78 => ⟨S_, .i32⟩
  | 79 => ⟨S1048576x8, .i32⟩
  | 80 => ⟨S1048576x8, .i32⟩
  | 81 => ⟨S1048576x8x1, .i32⟩
  | 82 => ⟨S1048576x8, .i32⟩
  | 83 => ⟨S_, .i32⟩
  | 84 => ⟨S1048576x8, .i32⟩
  | 85 => ⟨S1048576x8, .i32⟩
  | 86 => ⟨S1048576x8, .i32⟩
  | 87 => ⟨S1048576x8x1, .i32⟩
  | 88 => ⟨S1048576x8, .i32⟩
  | 89 => ⟨S_, .i32⟩
  | 90 => ⟨S1048576x8, .i32⟩
  | 91 => ⟨S1048576x8, .i32⟩
  | 92 => ⟨S1048576x8, .i32⟩
  | 93 => ⟨S_, .i32⟩
  | 94 => ⟨S_, .i32⟩
  | 95 => ⟨S_, .i1⟩
  | 96 => ⟨S_, .i32⟩
  | 97 => ⟨S_, .i32⟩
  | 98 => ⟨S1048576x8, .i32⟩
  | 99 => ⟨S1048576x8, .i32⟩
  | 100 => ⟨S_, .i32⟩
  | 101 => ⟨S1048576x8, .i32⟩
  | 102 => ⟨S1048576x8, .i1⟩
  | 103 => ⟨S_, .i32⟩
  | 104 => ⟨S1048576x8, .i32⟩
  | 105 => ⟨S1048576x8, .i1⟩
  | 106 => ⟨S_, .i32⟩
  | 107 => ⟨S_, .i1⟩
  | 108 => ⟨S1048576x8, .i1⟩
  | 109 => ⟨S1048576x8, .i1⟩
  | 110 => ⟨S1048576x8, .i1⟩
  | 111 => ⟨S1048576x8, .i32⟩
  | 112 => ⟨S1048576x8, .i32⟩
  | 113 => ⟨S1048576x8, .i32⟩
  | 114 => ⟨S1048576x8, .i32⟩
  | 115 => ⟨S1x524288x2, .f32⟩
  | 116 => ⟨S524288x2, .f32⟩
  | 117 => ⟨S_, .i32⟩
  | 118 => ⟨S1048576x8, .i32⟩
  | 119 => ⟨S1048576x8, .i1⟩
  | 120 => ⟨S_, .i32⟩
  | 121 => ⟨S1048576x8, .i32⟩
  | 122 => ⟨S1048576x8, .i32⟩
  | 123 => ⟨S1048576x8, .i32⟩
  | 124 => ⟨S1048576x8x1, .i32⟩
  | 125 => ⟨S1048576x8x2, .f32⟩
  | 126 => ⟨S1x8x3, .i32⟩
  | 127 => ⟨S_, .i32⟩
  | _ => ⟨S1048576x3, .f32⟩

abbrev hbmTy0_3 (i : Nat) : BufTy := match i % 128 with
  | 0 => ⟨S1x8x3, .i32⟩
  | 1 => ⟨S1x8x3, .i1⟩
  | 2 => ⟨S1048576x1x3, .f32⟩
  | 3 => ⟨S1048576x1x3, .f32⟩
  | 4 => ⟨S_, .f32⟩
  | 5 => ⟨S1048576x1x3, .f32⟩
  | 6 => ⟨S1048576x1x3, .f32⟩
  | 7 => ⟨S1048576x8x3, .i1⟩
  | 8 => ⟨S1048576x8x3, .f32⟩
  | 9 => ⟨S1048576x8x3, .f32⟩
  | 10 => ⟨S1048576x8x3, .f32⟩
  | 11 => ⟨S1048576x8x1, .f32⟩
  | 12 => ⟨S1048576x8, .f32⟩
  | 13 => ⟨S1048576x8x1, .f32⟩
  | 14 => ⟨S1048576x8, .f32⟩
  | 15 => ⟨S1048576x8, .f32⟩
  | 16 => ⟨S1048576x8x1, .f32⟩
  | 17 => ⟨S1048576x8, .f32⟩
  | 18 => ⟨S1048576x8, .f32⟩
  | 19 => ⟨S1048576x8x1, .f32⟩
  | 20 => ⟨S1048576x8x2, .f32⟩
  | 21 => ⟨S1048576x8x2, .f32⟩
  | 22 => ⟨S_, .f32⟩
  | 23 => ⟨S1048576x2, .f32⟩
  | 24 => ⟨S_, .f32⟩
  | 25 => ⟨S1048576x3, .f32⟩
  | 26 => ⟨S1048576x3, .f32⟩
  | 27 => ⟨S1048576x3, .f32⟩
  | 28 => ⟨S1048576x3, .i32⟩
  | 29 => ⟨S_, .i32⟩
  | 30 => ⟨S_, .i32⟩
  | 31 => ⟨S_, .i32⟩
  | 32 => ⟨S1048576x3, .i32⟩
  | 33 => ⟨S1048576x3, .i32⟩
  | 34 => ⟨S_, .i32⟩
  | 35 => ⟨S1048576x3, .i32⟩
  | 36 => ⟨S1048576x3, .i32⟩
  | 37 => ⟨S1048576x3, .f32⟩
  | 38 => ⟨S1048576x3, .f32⟩
  | 39 => ⟨S1048576x1x3, .i32⟩
  | 40 => ⟨S1x8x3, .i32⟩
  | 41 => ⟨S1048576x8x3, .i32⟩
  | 42 => ⟨S1048576x8x3, .i32⟩
  | 43 => ⟨S1048576x8x3, .i32⟩
  | 44 => ⟨S1048576x8x3, .i32⟩
  | 45 => ⟨S1048576x8x1, .i32⟩
  | 46 => ⟨S1048576x8, .i32⟩
  | 47 => ⟨S_, .i32⟩
  | 48 => ⟨S1048576x8, .i32⟩
  | 49 => ⟨S1048576x8, .i32⟩
  | 50 => ⟨S1048576x8x1, .i32⟩
  | 51 => ⟨S1048576x8, .i32⟩
  | 52 => ⟨S_, .i32⟩
  | 53 => ⟨S1048576x8, .i32⟩
  | 54 => ⟨S1048576x8, .i32⟩
  | 55 => ⟨S1048576x8, .i32⟩
  | 56 => ⟨S1048576x8x1, .i32⟩
  | 57 => ⟨S1048576x8, .i32⟩
  | 58 => ⟨S_, .i32⟩
  | 59 => ⟨S1048576x8, .i32⟩
  | 60 => ⟨S1048576x8, .i32⟩
  | 61 => ⟨S1048576x8, .i32⟩
  | 62 => ⟨S_, .i32⟩
  | 63 => ⟨S_, .i32⟩
  | 64 => ⟨S_, .i1⟩
  | 65 => ⟨S_, .i32⟩
  | 66 => ⟨S_, .i32⟩
  | 67 => ⟨S1048576x8, .i32⟩
  | 68 => ⟨S1048576x8, .i32⟩
  | 69 => ⟨S_, .i32⟩
  | 70 => ⟨S1048576x8, .i32⟩
  | 71 => ⟨S1048576x8, .i1⟩
  | 72 => ⟨S_, .i32⟩
  | 73 => ⟨S1048576x8, .i32⟩
  | 74 => ⟨S1048576x8, .i1⟩
  | 75 => ⟨S_, .i32⟩
  | 76 => ⟨S_, .i1⟩
  | 77 => ⟨S1048576x8, .i1⟩
  | 78 => ⟨S1048576x8, .i1⟩
  | 79 => ⟨S1048576x8, .i1⟩
  | 80 => ⟨S1048576x8, .i32⟩
  | 81 => ⟨S1048576x8, .i32⟩
  | 82 => ⟨S1048576x8, .i32⟩
  | 83 => ⟨S1048576x8, .i32⟩
  | 84 => ⟨S1x524288x2, .f32⟩
  | 85 => ⟨S524288x2, .f32⟩
  | 86 => ⟨S_, .i32⟩
  | 87 => ⟨S1048576x8, .i32⟩
  | 88 => ⟨S1048576x8, .i1⟩
  | 89 => ⟨S_, .i32⟩
  | 90 => ⟨S1048576x8, .i32⟩
  | 91 => ⟨S1048576x8, .i32⟩
  | 92 => ⟨S1048576x8, .i32⟩
  | 93 => ⟨S1048576x8x1, .i32⟩
  | 94 => ⟨S1048576x8x2, .f32⟩
  | 95 => ⟨S1x8x3, .i32⟩
  | 96 => ⟨S_, .i32⟩
  | 97 => ⟨S1x8x3, .i32⟩
  | 98 => ⟨S1x8x3, .i1⟩
  | 99 => ⟨S1048576x1x3, .f32⟩
  | 100 => ⟨S1048576x1x3, .f32⟩
  | 101 => ⟨S_, .f32⟩
  | 102 => ⟨S1048576x1x3, .f32⟩
  | 103 => ⟨S1048576x1x3, .f32⟩
  | 104 => ⟨S1048576x8x3, .i1⟩
  | 105 => ⟨S1048576x8x3, .f32⟩
  | 106 => ⟨S1048576x8x3, .f32⟩
  | 107 => ⟨S1048576x8x3, .f32⟩
  | 108 => ⟨S1048576x8x1, .f32⟩
  | 109 => ⟨S1048576x8, .f32⟩
  | 110 => ⟨S1048576x8x1, .f32⟩
  | 111 => ⟨S1048576x8, .f32⟩
  | 112 => ⟨S1048576x8, .f32⟩
  | 113 => ⟨S1048576x8x1, .f32⟩
  | 114 => ⟨S1048576x8, .f32⟩
  | 115 => ⟨S1048576x8, .f32⟩
  | 116 => ⟨S1048576x8x1, .f32⟩
  | 117 => ⟨S1048576x8x2, .f32⟩
  | 118 => ⟨S1048576x8x2, .f32⟩
  | 119 => ⟨S_, .f32⟩
  | 120 => ⟨S1048576x2, .f32⟩
  | 121 => ⟨S_, .f32⟩
  | 122 => ⟨S1048576x3, .f32⟩
  | 123 => ⟨S1048576x3, .f32⟩
  | 124 => ⟨S1048576x3, .f32⟩
  | 125 => ⟨S1048576x3, .i32⟩
  | 126 => ⟨S_, .i32⟩
  | 127 => ⟨S_, .i32⟩
  | _ => ⟨S1048576x3, .f32⟩

abbrev hbmTy0_4 (i : Nat) : BufTy := match i % 128 with
  | 0 => ⟨S_, .i32⟩
  | 1 => ⟨S1048576x3, .i32⟩
  | 2 => ⟨S1048576x3, .i32⟩
  | 3 => ⟨S_, .i32⟩
  | 4 => ⟨S1048576x3, .i32⟩
  | 5 => ⟨S1048576x3, .i32⟩
  | 6 => ⟨S1048576x3, .f32⟩
  | 7 => ⟨S1048576x3, .f32⟩
  | 8 => ⟨S1048576x1x3, .i32⟩
  | 9 => ⟨S1x8x3, .i32⟩
  | 10 => ⟨S1048576x8x3, .i32⟩
  | 11 => ⟨S1048576x8x3, .i32⟩
  | 12 => ⟨S1048576x8x3, .i32⟩
  | 13 => ⟨S1048576x8x3, .i32⟩
  | 14 => ⟨S1048576x8x1, .i32⟩
  | 15 => ⟨S1048576x8, .i32⟩
  | 16 => ⟨S_, .i32⟩
  | 17 => ⟨S1048576x8, .i32⟩
  | 18 => ⟨S1048576x8, .i32⟩
  | 19 => ⟨S1048576x8x1, .i32⟩
  | 20 => ⟨S1048576x8, .i32⟩
  | 21 => ⟨S_, .i32⟩
  | 22 => ⟨S1048576x8, .i32⟩
  | 23 => ⟨S1048576x8, .i32⟩
  | 24 => ⟨S1048576x8, .i32⟩
  | 25 => ⟨S1048576x8x1, .i32⟩
  | 26 => ⟨S1048576x8, .i32⟩
  | 27 => ⟨S_, .i32⟩
  | 28 => ⟨S1048576x8, .i32⟩
  | 29 => ⟨S1048576x8, .i32⟩
  | 30 => ⟨S1048576x8, .i32⟩
  | 31 => ⟨S_, .i32⟩
  | 32 => ⟨S_, .i32⟩
  | 33 => ⟨S_, .i1⟩
  | 34 => ⟨S_, .i32⟩
  | 35 => ⟨S_, .i32⟩
  | 36 => ⟨S1048576x8, .i32⟩
  | 37 => ⟨S1048576x8, .i32⟩
  | 38 => ⟨S_, .i32⟩
  | 39 => ⟨S1048576x8, .i32⟩
  | 40 => ⟨S1048576x8, .i1⟩
  | 41 => ⟨S_, .i32⟩
  | 42 => ⟨S1048576x8, .i32⟩
  | 43 => ⟨S1048576x8, .i1⟩
  | 44 => ⟨S_, .i32⟩
  | 45 => ⟨S_, .i1⟩
  | 46 => ⟨S1048576x8, .i1⟩
  | 47 => ⟨S1048576x8, .i1⟩
  | 48 => ⟨S1048576x8, .i1⟩
  | 49 => ⟨S1048576x8, .i32⟩
  | 50 => ⟨S1048576x8, .i32⟩
  | 51 => ⟨S1048576x8, .i32⟩
  | 52 => ⟨S1048576x8, .i32⟩
  | 53 => ⟨S1x524288x2, .f32⟩
  | 54 => ⟨S524288x2, .f32⟩
  | 55 => ⟨S_, .i32⟩
  | 56 => ⟨S1048576x8, .i32⟩
  | 57 => ⟨S1048576x8, .i1⟩
  | 58 => ⟨S_, .i32⟩
  | 59 => ⟨S1048576x8, .i32⟩
  | 60 => ⟨S1048576x8, .i32⟩
  | 61 => ⟨S1048576x8, .i32⟩
  | 62 => ⟨S1048576x8x1, .i32⟩
  | 63 => ⟨S1048576x8x2, .f32⟩
  | 64 => ⟨S1x8x3, .i32⟩
  | 65 => ⟨S_, .i32⟩
  | 66 => ⟨S1x8x3, .i32⟩
  | 67 => ⟨S1x8x3, .i1⟩
  | 68 => ⟨S1048576x1x3, .f32⟩
  | 69 => ⟨S1048576x1x3, .f32⟩
  | 70 => ⟨S_, .f32⟩
  | 71 => ⟨S1048576x1x3, .f32⟩
  | 72 => ⟨S1048576x1x3, .f32⟩
  | 73 => ⟨S1048576x8x3, .i1⟩
  | 74 => ⟨S1048576x8x3, .f32⟩
  | 75 => ⟨S1048576x8x3, .f32⟩
  | 76 => ⟨S1048576x8x3, .f32⟩
  | 77 => ⟨S1048576x8x1, .f32⟩
  | 78 => ⟨S1048576x8, .f32⟩
  | 79 => ⟨S1048576x8x1, .f32⟩
  | 80 => ⟨S1048576x8, .f32⟩
  | 81 => ⟨S1048576x8, .f32⟩
  | 82 => ⟨S1048576x8x1, .f32⟩
  | 83 => ⟨S1048576x8, .f32⟩
  | 84 => ⟨S1048576x8, .f32⟩
  | 85 => ⟨S1048576x8x1, .f32⟩
  | 86 => ⟨S1048576x8x2, .f32⟩
  | 87 => ⟨S1048576x8x2, .f32⟩
  | 88 => ⟨S_, .f32⟩
  | 89 => ⟨S1048576x2, .f32⟩
  | 90 => ⟨S_, .f32⟩
  | 91 => ⟨S1048576x3, .f32⟩
  | 92 => ⟨S1048576x3, .f32⟩
  | 93 => ⟨S1048576x3, .f32⟩
  | 94 => ⟨S1048576x3, .i32⟩
  | 95 => ⟨S_, .i32⟩
  | 96 => ⟨S_, .i32⟩
  | 97 => ⟨S_, .i32⟩
  | 98 => ⟨S1048576x3, .i32⟩
  | 99 => ⟨S1048576x3, .i32⟩
  | 100 => ⟨S_, .i32⟩
  | 101 => ⟨S1048576x3, .i32⟩
  | 102 => ⟨S1048576x3, .i32⟩
  | 103 => ⟨S1048576x3, .f32⟩
  | 104 => ⟨S1048576x3, .f32⟩
  | 105 => ⟨S1048576x1x3, .i32⟩
  | 106 => ⟨S1x8x3, .i32⟩
  | 107 => ⟨S1048576x8x3, .i32⟩
  | 108 => ⟨S1048576x8x3, .i32⟩
  | 109 => ⟨S1048576x8x3, .i32⟩
  | 110 => ⟨S1048576x8x3, .i32⟩
  | 111 => ⟨S1048576x8x1, .i32⟩
  | 112 => ⟨S1048576x8, .i32⟩
  | 113 => ⟨S_, .i32⟩
  | 114 => ⟨S1048576x8, .i32⟩
  | 115 => ⟨S1048576x8, .i32⟩
  | 116 => ⟨S1048576x8x1, .i32⟩
  | 117 => ⟨S1048576x8, .i32⟩
  | 118 => ⟨S_, .i32⟩
  | 119 => ⟨S1048576x8, .i32⟩
  | 120 => ⟨S1048576x8, .i32⟩
  | 121 => ⟨S1048576x8, .i32⟩
  | 122 => ⟨S1048576x8x1, .i32⟩
  | 123 => ⟨S1048576x8, .i32⟩
  | 124 => ⟨S_, .i32⟩
  | 125 => ⟨S1048576x8, .i32⟩
  | 126 => ⟨S1048576x8, .i32⟩
  | 127 => ⟨S1048576x8, .i32⟩
  | _ => ⟨S1048576x3, .f32⟩

abbrev hbmTy0_5 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S1048576x8, .i32⟩
  | 6 => ⟨S1048576x8, .i32⟩
  | 7 => ⟨S_, .i32⟩
  | 8 => ⟨S1048576x8, .i32⟩
  | 9 => ⟨S1048576x8, .i1⟩
  | 10 => ⟨S_, .i32⟩
  | 11 => ⟨S1048576x8, .i32⟩
  | 12 => ⟨S1048576x8, .i1⟩
  | 13 => ⟨S_, .i32⟩
  | 14 => ⟨S_, .i1⟩
  | 15 => ⟨S1048576x8, .i1⟩
  | 16 => ⟨S1048576x8, .i1⟩
  | 17 => ⟨S1048576x8, .i1⟩
  | 18 => ⟨S1048576x8, .i32⟩
  | 19 => ⟨S1048576x8, .i32⟩
  | 20 => ⟨S1048576x8, .i32⟩
  | 21 => ⟨S1048576x8, .i32⟩
  | 22 => ⟨S1x524288x2, .f32⟩
  | 23 => ⟨S524288x2, .f32⟩
  | 24 => ⟨S_, .i32⟩
  | 25 => ⟨S1048576x8, .i32⟩
  | 26 => ⟨S1048576x8, .i1⟩
  | 27 => ⟨S_, .i32⟩
  | 28 => ⟨S1048576x8, .i32⟩
  | 29 => ⟨S1048576x8, .i32⟩
  | 30 => ⟨S1048576x8, .i32⟩
  | 31 => ⟨S1048576x8x1, .i32⟩
  | 32 => ⟨S1048576x8x2, .f32⟩
  | 33 => ⟨S1x8x3, .i32⟩
  | 34 => ⟨S_, .i32⟩
  | 35 => ⟨S1x8x3, .i32⟩
  | 36 => ⟨S1x8x3, .i1⟩
  | 37 => ⟨S1048576x1x3, .f32⟩
  | 38 => ⟨S1048576x1x3, .f32⟩
  | 39 => ⟨S_, .f32⟩
  | 40 => ⟨S1048576x1x3, .f32⟩
  | 41 => ⟨S1048576x1x3, .f32⟩
  | 42 => ⟨S1048576x8x3, .i1⟩
  | 43 => ⟨S1048576x8x3, .f32⟩
  | 44 => ⟨S1048576x8x3, .f32⟩
  | 45 => ⟨S1048576x8x3, .f32⟩
  | 46 => ⟨S1048576x8x1, .f32⟩
  | 47 => ⟨S1048576x8, .f32⟩
  | 48 => ⟨S1048576x8x1, .f32⟩
  | 49 => ⟨S1048576x8, .f32⟩
  | 50 => ⟨S1048576x8, .f32⟩
  | 51 => ⟨S1048576x8x1, .f32⟩
  | 52 => ⟨S1048576x8, .f32⟩
  | 53 => ⟨S1048576x8, .f32⟩
  | 54 => ⟨S1048576x8x1, .f32⟩
  | 55 => ⟨S1048576x8x2, .f32⟩
  | 56 => ⟨S1048576x8x2, .f32⟩
  | 57 => ⟨S_, .f32⟩
  | 58 => ⟨S1048576x2, .f32⟩
  | 59 => ⟨S_, .f32⟩
  | 60 => ⟨S1048576x3, .f32⟩
  | 61 => ⟨S1048576x3, .f32⟩
  | 62 => ⟨S1048576x3, .f32⟩
  | 63 => ⟨S1048576x3, .i32⟩
  | 64 => ⟨S_, .i32⟩
  | 65 => ⟨S_, .i32⟩
  | 66 => ⟨S_, .i32⟩
  | 67 => ⟨S1048576x3, .i32⟩
  | 68 => ⟨S1048576x3, .i32⟩
  | 69 => ⟨S_, .i32⟩
  | 70 => ⟨S1048576x3, .i32⟩
  | 71 => ⟨S1048576x3, .i32⟩
  | 72 => ⟨S1048576x3, .f32⟩
  | 73 => ⟨S1048576x3, .f32⟩
  | 74 => ⟨S1048576x1x3, .i32⟩
  | 75 => ⟨S1x8x3, .i32⟩
  | 76 => ⟨S1048576x8x3, .i32⟩
  | 77 => ⟨S1048576x8x3, .i32⟩
  | 78 => ⟨S1048576x8x3, .i32⟩
  | 79 => ⟨S1048576x8x3, .i32⟩
  | 80 => ⟨S1048576x8x1, .i32⟩
  | 81 => ⟨S1048576x8, .i32⟩
  | 82 => ⟨S_, .i32⟩
  | 83 => ⟨S1048576x8, .i32⟩
  | 84 => ⟨S1048576x8, .i32⟩
  | 85 => ⟨S1048576x8x1, .i32⟩
  | 86 => ⟨S1048576x8, .i32⟩
  | 87 => ⟨S_, .i32⟩
  | 88 => ⟨S1048576x8, .i32⟩
  | 89 => ⟨S1048576x8, .i32⟩
  | 90 => ⟨S1048576x8, .i32⟩
  | 91 => ⟨S1048576x8x1, .i32⟩
  | 92 => ⟨S1048576x8, .i32⟩
  | 93 => ⟨S_, .i32⟩
  | 94 => ⟨S1048576x8, .i32⟩
  | 95 => ⟨S1048576x8, .i32⟩
  | 96 => ⟨S1048576x8, .i32⟩
  | 97 => ⟨S_, .i32⟩
  | 98 => ⟨S_, .i32⟩
  | 99 => ⟨S_, .i1⟩
  | 100 => ⟨S_, .i32⟩
  | 101 => ⟨S_, .i32⟩
  | 102 => ⟨S1048576x8, .i32⟩
  | 103 => ⟨S1048576x8, .i32⟩
  | 104 => ⟨S_, .i32⟩
  | 105 => ⟨S1048576x8, .i32⟩
  | 106 => ⟨S1048576x8, .i1⟩
  | 107 => ⟨S_, .i32⟩
  | 108 => ⟨S1048576x8, .i32⟩
  | 109 => ⟨S1048576x8, .i1⟩
  | 110 => ⟨S_, .i32⟩
  | 111 => ⟨S_, .i1⟩
  | 112 => ⟨S1048576x8, .i1⟩
  | 113 => ⟨S1048576x8, .i1⟩
  | 114 => ⟨S1048576x8, .i1⟩
  | 115 => ⟨S1048576x8, .i32⟩
  | 116 => ⟨S1048576x8, .i32⟩
  | 117 => ⟨S1048576x8, .i32⟩
  | 118 => ⟨S1048576x8, .i32⟩
  | 119 => ⟨S1x524288x2, .f32⟩
  | 120 => ⟨S524288x2, .f32⟩
  | 121 => ⟨S_, .i32⟩
  | 122 => ⟨S1048576x8, .i32⟩
  | 123 => ⟨S1048576x8, .i1⟩
  | 124 => ⟨S_, .i32⟩
  | 125 => ⟨S1048576x8, .i32⟩
  | 126 => ⟨S1048576x8, .i32⟩
  | 127 => ⟨S1048576x8, .i32⟩
  | _ => ⟨S1048576x3, .f32⟩

abbrev hbmTy0_6 (i : Nat) : BufTy := match i % 128 with
  | 0 => ⟨S1048576x8x1, .i32⟩
  | 1 => ⟨S1048576x8x2, .f32⟩
  | 2 => ⟨S1x8x3, .i32⟩
  | 3 => ⟨S_, .i32⟩
  | 4 => ⟨S1x8x3, .i32⟩
  | 5 => ⟨S1x8x3, .i1⟩
  | 6 => ⟨S1048576x1x3, .f32⟩
  | 7 => ⟨S1048576x1x3, .f32⟩
  | 8 => ⟨S_, .f32⟩
  | 9 => ⟨S1048576x1x3, .f32⟩
  | 10 => ⟨S1048576x1x3, .f32⟩
  | 11 => ⟨S1048576x8x3, .i1⟩
  | 12 => ⟨S1048576x8x3, .f32⟩
  | 13 => ⟨S1048576x8x3, .f32⟩
  | 14 => ⟨S1048576x8x3, .f32⟩
  | 15 => ⟨S1048576x8x1, .f32⟩
  | 16 => ⟨S1048576x8, .f32⟩
  | 17 => ⟨S1048576x8x1, .f32⟩
  | 18 => ⟨S1048576x8, .f32⟩
  | 19 => ⟨S1048576x8, .f32⟩
  | 20 => ⟨S1048576x8x1, .f32⟩
  | 21 => ⟨S1048576x8, .f32⟩
  | 22 => ⟨S1048576x8, .f32⟩
  | 23 => ⟨S1048576x8x1, .f32⟩
  | 24 => ⟨S1048576x8x2, .f32⟩
  | 25 => ⟨S1048576x8x2, .f32⟩
  | 26 => ⟨S_, .f32⟩
  | 27 => ⟨S1048576x2, .f32⟩
  | 28 => ⟨S_, .f32⟩
  | 29 => ⟨S1048576x3, .f32⟩
  | 30 => ⟨S1048576x3, .f32⟩
  | 31 => ⟨S1048576x3, .f32⟩
  | 32 => ⟨S1048576x3, .i32⟩
  | 33 => ⟨S_, .i32⟩
  | 34 => ⟨S_, .i32⟩
  | 35 => ⟨S_, .i32⟩
  | 36 => ⟨S1048576x3, .i32⟩
  | 37 => ⟨S1048576x3, .i32⟩
  | 38 => ⟨S_, .i32⟩
  | 39 => ⟨S1048576x3, .i32⟩
  | 40 => ⟨S1048576x3, .i32⟩
  | 41 => ⟨S1048576x3, .f32⟩
  | 42 => ⟨S1048576x3, .f32⟩
  | 43 => ⟨S1048576x1x3, .i32⟩
  | 44 => ⟨S1x8x3, .i32⟩
  | 45 => ⟨S1048576x8x3, .i32⟩
  | 46 => ⟨S1048576x8x3, .i32⟩
  | 47 => ⟨S1048576x8x3, .i32⟩
  | 48 => ⟨S1048576x8x3, .i32⟩
  | 49 => ⟨S1048576x8x1, .i32⟩
  | 50 => ⟨S1048576x8, .i32⟩
  | 51 => ⟨S_, .i32⟩
  | 52 => ⟨S1048576x8, .i32⟩
  | 53 => ⟨S1048576x8, .i32⟩
  | 54 => ⟨S1048576x8x1, .i32⟩
  | 55 => ⟨S1048576x8, .i32⟩
  | 56 => ⟨S_, .i32⟩
  | 57 => ⟨S1048576x8, .i32⟩
  | 58 => ⟨S1048576x8, .i32⟩
  | 59 => ⟨S1048576x8, .i32⟩
  | 60 => ⟨S1048576x8x1, .i32⟩
  | 61 => ⟨S1048576x8, .i32⟩
  | 62 => ⟨S_, .i32⟩
  | 63 => ⟨S1048576x8, .i32⟩
  | 64 => ⟨S1048576x8, .i32⟩
  | 65 => ⟨S1048576x8, .i32⟩
  | 66 => ⟨S_, .i32⟩
  | 67 => ⟨S_, .i32⟩
  | 68 => ⟨S_, .i1⟩
  | 69 => ⟨S_, .i32⟩
  | 70 => ⟨S_, .i32⟩
  | 71 => ⟨S1048576x8, .i32⟩
  | 72 => ⟨S1048576x8, .i32⟩
  | 73 => ⟨S_, .i32⟩
  | 74 => ⟨S1048576x8, .i32⟩
  | 75 => ⟨S1048576x8, .i1⟩
  | 76 => ⟨S_, .i32⟩
  | 77 => ⟨S1048576x8, .i32⟩
  | 78 => ⟨S1048576x8, .i1⟩
  | 79 => ⟨S_, .i32⟩
  | 80 => ⟨S_, .i1⟩
  | 81 => ⟨S1048576x8, .i1⟩
  | 82 => ⟨S1048576x8, .i1⟩
  | 83 => ⟨S1048576x8, .i1⟩
  | 84 => ⟨S1048576x8, .i32⟩
  | 85 => ⟨S1048576x8, .i32⟩
  | 86 => ⟨S1048576x8, .i32⟩
  | 87 => ⟨S1048576x8, .i32⟩
  | 88 => ⟨S1x524288x2, .f32⟩
  | 89 => ⟨S524288x2, .f32⟩
  | 90 => ⟨S_, .i32⟩
  | 91 => ⟨S1048576x8, .i32⟩
  | 92 => ⟨S1048576x8, .i1⟩
  | 93 => ⟨S_, .i32⟩
  | 94 => ⟨S1048576x8, .i32⟩
  | 95 => ⟨S1048576x8, .i32⟩
  | 96 => ⟨S1048576x8, .i32⟩
  | 97 => ⟨S1048576x8x1, .i32⟩
  | 98 => ⟨S1048576x8x2, .f32⟩
  | 99 => ⟨S1x8x3, .i32⟩
  | 100 => ⟨S_, .i32⟩
  | 101 => ⟨S1x8x3, .i32⟩
  | 102 => ⟨S1x8x3, .i1⟩
  | 103 => ⟨S1048576x1x3, .f32⟩
  | 104 => ⟨S1048576x1x3, .f32⟩
  | 105 => ⟨S_, .f32⟩
  | 106 => ⟨S1048576x1x3, .f32⟩
  | 107 => ⟨S1048576x1x3, .f32⟩
  | 108 => ⟨S1048576x8x3, .i1⟩
  | 109 => ⟨S1048576x8x3, .f32⟩
  | 110 => ⟨S1048576x8x3, .f32⟩
  | 111 => ⟨S1048576x8x3, .f32⟩
  | 112 => ⟨S1048576x8x1, .f32⟩
  | 113 => ⟨S1048576x8, .f32⟩
  | 114 => ⟨S1048576x8x1, .f32⟩
  | 115 => ⟨S1048576x8, .f32⟩
  | 116 => ⟨S1048576x8, .f32⟩
  | 117 => ⟨S1048576x8x1, .f32⟩
  | 118 => ⟨S1048576x8, .f32⟩
  | 119 => ⟨S1048576x8, .f32⟩
  | 120 => ⟨S1048576x8x1, .f32⟩
  | 121 => ⟨S1048576x8x2, .f32⟩
  | 122 => ⟨S1048576x8x2, .f32⟩
  | 123 => ⟨S_, .f32⟩
  | 124 => ⟨S1048576x2, .f32⟩
  | 125 => ⟨S_, .f32⟩
  | 126 => ⟨S1048576x3, .f32⟩
  | 127 => ⟨S1048576x3, .f32⟩
  | _ => ⟨S1048576x3, .f32⟩

abbrev hbmTy0_7 (i : Nat) : BufTy := match i % 128 with
  | 0 => ⟨S1048576x3, .f32⟩
  | 1 => ⟨S1048576x3, .i32⟩
  | 2 => ⟨S_, .i32⟩
  | 3 => ⟨S_, .i32⟩
  | 4 => ⟨S_, .i32⟩
  | 5 => ⟨S1048576x3, .i32⟩
  | 6 => ⟨S1048576x3, .i32⟩
  | 7 => ⟨S_, .i32⟩
  | 8 => ⟨S1048576x3, .i32⟩
  | 9 => ⟨S1048576x3, .i32⟩
  | 10 => ⟨S1048576x3, .f32⟩
  | 11 => ⟨S1048576x3, .f32⟩
  | 12 => ⟨S1048576x1x3, .i32⟩
  | 13 => ⟨S1x8x3, .i32⟩
  | 14 => ⟨S1048576x8x3, .i32⟩
  | 15 => ⟨S1048576x8x3, .i32⟩
  | 16 => ⟨S1048576x8x3, .i32⟩
  | 17 => ⟨S1048576x8x3, .i32⟩
  | 18 => ⟨S1048576x8x1, .i32⟩
  | 19 => ⟨S1048576x8, .i32⟩
  | 20 => ⟨S_, .i32⟩
  | 21 => ⟨S1048576x8, .i32⟩
  | 22 => ⟨S1048576x8, .i32⟩
  | 23 => ⟨S1048576x8x1, .i32⟩
  | 24 => ⟨S1048576x8, .i32⟩
  | 25 => ⟨S_, .i32⟩
  | 26 => ⟨S1048576x8, .i32⟩
  | 27 => ⟨S1048576x8, .i32⟩
  | 28 => ⟨S1048576x8, .i32⟩
  | 29 => ⟨S1048576x8x1, .i32⟩
  | 30 => ⟨S1048576x8, .i32⟩
  | 31 => ⟨S_, .i32⟩
  | 32 => ⟨S1048576x8, .i32⟩
  | 33 => ⟨S1048576x8, .i32⟩
  | 34 => ⟨S1048576x8, .i32⟩
  | 35 => ⟨S_, .i32⟩
  | 36 => ⟨S_, .i32⟩
  | 37 => ⟨S_, .i1⟩
  | 38 => ⟨S_, .i32⟩
  | 39 => ⟨S_, .i32⟩
  | 40 => ⟨S1048576x8, .i32⟩
  | 41 => ⟨S1048576x8, .i32⟩
  | 42 => ⟨S_, .i32⟩
  | 43 => ⟨S1048576x8, .i32⟩
  | 44 => ⟨S1048576x8, .i1⟩
  | 45 => ⟨S_, .i32⟩
  | 46 => ⟨S1048576x8, .i32⟩
  | 47 => ⟨S1048576x8, .i1⟩
  | 48 => ⟨S_, .i32⟩
  | 49 => ⟨S_, .i1⟩
  | 50 => ⟨S1048576x8, .i1⟩
  | 51 => ⟨S1048576x8, .i1⟩
  | 52 => ⟨S1048576x8, .i1⟩
  | 53 => ⟨S1048576x8, .i32⟩
  | 54 => ⟨S1048576x8, .i32⟩
  | 55 => ⟨S1048576x8, .i32⟩
  | 56 => ⟨S1048576x8, .i32⟩
  | 57 => ⟨S1x524288x2, .f32⟩
  | 58 => ⟨S524288x2, .f32⟩
  | 59 => ⟨S_, .i32⟩
  | 60 => ⟨S1048576x8, .i32⟩
  | 61 => ⟨S1048576x8, .i1⟩
  | 62 => ⟨S_, .i32⟩
  | 63 => ⟨S1048576x8, .i32⟩
  | 64 => ⟨S1048576x8, .i32⟩
  | 65 => ⟨S1048576x8, .i32⟩
  | 66 => ⟨S1048576x8x1, .i32⟩
  | 67 => ⟨S1048576x8x2, .f32⟩
  | 68 => ⟨S1x8x3, .i32⟩
  | 69 => ⟨S_, .i32⟩
  | 70 => ⟨S1x8x3, .i32⟩
  | 71 => ⟨S1x8x3, .i1⟩
  | 72 => ⟨S1048576x1x3, .f32⟩
  | 73 => ⟨S1048576x1x3, .f32⟩
  | 74 => ⟨S_, .f32⟩
  | 75 => ⟨S1048576x1x3, .f32⟩
  | 76 => ⟨S1048576x1x3, .f32⟩
  | 77 => ⟨S1048576x8x3, .i1⟩
  | 78 => ⟨S1048576x8x3, .f32⟩
  | 79 => ⟨S1048576x8x3, .f32⟩
  | 80 => ⟨S1048576x8x3, .f32⟩
  | 81 => ⟨S1048576x8x1, .f32⟩
  | 82 => ⟨S1048576x8, .f32⟩
  | 83 => ⟨S1048576x8x1, .f32⟩
  | 84 => ⟨S1048576x8, .f32⟩
  | 85 => ⟨S1048576x8, .f32⟩
  | 86 => ⟨S1048576x8x1, .f32⟩
  | 87 => ⟨S1048576x8, .f32⟩
  | 88 => ⟨S1048576x8, .f32⟩
  | 89 => ⟨S1048576x8x1, .f32⟩
  | 90 => ⟨S1048576x8x2, .f32⟩
  | 91 => ⟨S1048576x8x2, .f32⟩
  | 92 => ⟨S_, .f32⟩
  | 93 => ⟨S1048576x2, .f32⟩
  | 94 => ⟨S_, .f32⟩
  | 95 => ⟨S1048576x3, .f32⟩
  | 96 => ⟨S1048576x3, .f32⟩
  | 97 => ⟨S1048576x3, .f32⟩
  | 98 => ⟨S1048576x3, .i32⟩
  | 99 => ⟨S_, .i32⟩
  | 100 => ⟨S_, .i32⟩
  | 101 => ⟨S_, .i32⟩
  | 102 => ⟨S1048576x3, .i32⟩
  | 103 => ⟨S1048576x3, .i32⟩
  | 104 => ⟨S_, .i32⟩
  | 105 => ⟨S1048576x3, .i32⟩
  | 106 => ⟨S1048576x3, .i32⟩
  | 107 => ⟨S1048576x3, .f32⟩
  | 108 => ⟨S1048576x3, .f32⟩
  | 109 => ⟨S1048576x1x3, .i32⟩
  | 110 => ⟨S1x8x3, .i32⟩
  | 111 => ⟨S1048576x8x3, .i32⟩
  | 112 => ⟨S1048576x8x3, .i32⟩
  | 113 => ⟨S1048576x8x3, .i32⟩
  | 114 => ⟨S1048576x8x3, .i32⟩
  | 115 => ⟨S1048576x8x1, .i32⟩
  | 116 => ⟨S1048576x8, .i32⟩
  | 117 => ⟨S_, .i32⟩
  | 118 => ⟨S1048576x8, .i32⟩
  | 119 => ⟨S1048576x8, .i32⟩
  | 120 => ⟨S1048576x8x1, .i32⟩
  | 121 => ⟨S1048576x8, .i32⟩
  | 122 => ⟨S_, .i32⟩
  | 123 => ⟨S1048576x8, .i32⟩
  | 124 => ⟨S1048576x8, .i32⟩
  | 125 => ⟨S1048576x8, .i32⟩
  | 126 => ⟨S1048576x8x1, .i32⟩
  | 127 => ⟨S1048576x8, .i32⟩
  | _ => ⟨S1048576x3, .f32⟩

abbrev hbmTy0_8 (i : Nat) : BufTy := match i % 128 with
  | 0 => ⟨S_, .i32⟩
  | 1 => ⟨S1048576x8, .i32⟩
  | 2 => ⟨S1048576x8, .i32⟩
  | 3 => ⟨S1048576x8, .i32⟩
  | 4 => ⟨S_, .i32⟩
  | 5 => ⟨S_, .i32⟩
  | 6 => ⟨S_, .i1⟩
  | 7 => ⟨S_, .i32⟩
  | 8 => ⟨S_, .i32⟩
  | 9 => ⟨S1048576x8, .i32⟩
  | 10 => ⟨S1048576x8, .i32⟩
  | 11 => ⟨S_, .i32⟩
  | 12 => ⟨S1048576x8, .i32⟩
  | 13 => ⟨S1048576x8, .i1⟩
  | 14 => ⟨S_, .i32⟩
  | 15 => ⟨S1048576x8, .i32⟩
  | 16 => ⟨S1048576x8, .i1⟩
  | 17 => ⟨S_, .i32⟩
  | 18 => ⟨S_, .i1⟩
  | 19 => ⟨S1048576x8, .i1⟩
  | 20 => ⟨S1048576x8, .i1⟩
  | 21 => ⟨S1048576x8, .i1⟩
  | 22 => ⟨S1048576x8, .i32⟩
  | 23 => ⟨S1048576x8, .i32⟩
  | 24 => ⟨S1048576x8, .i32⟩
  | 25 => ⟨S1048576x8, .i32⟩
  | 26 => ⟨S1x524288x2, .f32⟩
  | 27 => ⟨S524288x2, .f32⟩
  | 28 => ⟨S_, .i32⟩
  | 29 => ⟨S1048576x8, .i32⟩
  | 30 => ⟨S1048576x8, .i1⟩
  | 31 => ⟨S_, .i32⟩
  | 32 => ⟨S1048576x8, .i32⟩
  | 33 => ⟨S1048576x8, .i32⟩
  | 34 => ⟨S1048576x8, .i32⟩
  | 35 => ⟨S1048576x8x1, .i32⟩
  | 36 => ⟨S1048576x8x2, .f32⟩
  | 37 => ⟨S1x8x3, .i32⟩
  | 38 => ⟨S_, .i32⟩
  | 39 => ⟨S1x8x3, .i32⟩
  | 40 => ⟨S1x8x3, .i1⟩
  | 41 => ⟨S1048576x1x3, .f32⟩
  | 42 => ⟨S1048576x1x3, .f32⟩
  | 43 => ⟨S_, .f32⟩
  | 44 => ⟨S1048576x1x3, .f32⟩
  | 45 => ⟨S1048576x1x3, .f32⟩
  | 46 => ⟨S1048576x8x3, .i1⟩
  | 47 => ⟨S1048576x8x3, .f32⟩
  | 48 => ⟨S1048576x8x3, .f32⟩
  | 49 => ⟨S1048576x8x3, .f32⟩
  | 50 => ⟨S1048576x8x1, .f32⟩
  | 51 => ⟨S1048576x8, .f32⟩
  | 52 => ⟨S1048576x8x1, .f32⟩
  | 53 => ⟨S1048576x8, .f32⟩
  | 54 => ⟨S1048576x8, .f32⟩
  | 55 => ⟨S1048576x8x1, .f32⟩
  | 56 => ⟨S1048576x8, .f32⟩
  | 57 => ⟨S1048576x8, .f32⟩
  | 58 => ⟨S1048576x8x1, .f32⟩
  | 59 => ⟨S1048576x8x2, .f32⟩
  | 60 => ⟨S1048576x8x2, .f32⟩
  | 61 => ⟨S_, .f32⟩
  | 62 => ⟨S1048576x2, .f32⟩
  | 63 => ⟨S_, .f32⟩
  | 64 => ⟨S1048576x3, .f32⟩
  | 65 => ⟨S1048576x3, .f32⟩
  | 66 => ⟨S1048576x3, .f32⟩
  | 67 => ⟨S1048576x3, .i32⟩
  | 68 => ⟨S_, .i32⟩
  | 69 => ⟨S_, .i32⟩
  | 70 => ⟨S_, .i32⟩
  | 71 => ⟨S1048576x3, .i32⟩
  | 72 => ⟨S1048576x3, .i32⟩
  | 73 => ⟨S_, .i32⟩
  | 74 => ⟨S1048576x3, .i32⟩
  | 75 => ⟨S1048576x3, .i32⟩
  | 76 => ⟨S1048576x3, .f32⟩
  | 77 => ⟨S1048576x3, .f32⟩
  | 78 => ⟨S1048576x1x3, .i32⟩
  | 79 => ⟨S1x8x3, .i32⟩
  | 80 => ⟨S1048576x8x3, .i32⟩
  | 81 => ⟨S1048576x8x3, .i32⟩
  | 82 => ⟨S1048576x8x3, .i32⟩
  | 83 => ⟨S1048576x8x3, .i32⟩
  | 84 => ⟨S1048576x8x1, .i32⟩
  | 85 => ⟨S1048576x8, .i32⟩
  | 86 => ⟨S_, .i32⟩
  | 87 => ⟨S1048576x8, .i32⟩
  | 88 => ⟨S1048576x8, .i32⟩
  | 89 => ⟨S1048576x8x1, .i32⟩
  | 90 => ⟨S1048576x8, .i32⟩
  | 91 => ⟨S_, .i32⟩
  | 92 => ⟨S1048576x8, .i32⟩
  | 93 => ⟨S1048576x8, .i32⟩
  | 94 => ⟨S1048576x8, .i32⟩
  | 95 => ⟨S1048576x8x1, .i32⟩
  | 96 => ⟨S1048576x8, .i32⟩
  | 97 => ⟨S_, .i32⟩
  | 98 => ⟨S1048576x8, .i32⟩
  | 99 => ⟨S1048576x8, .i32⟩
  | 100 => ⟨S1048576x8, .i32⟩
  | 101 => ⟨S_, .i32⟩
  | 102 => ⟨S_, .i32⟩
  | 103 => ⟨S_, .i1⟩
  | 104 => ⟨S_, .i32⟩
  | 105 => ⟨S_, .i32⟩
  | 106 => ⟨S1048576x8, .i32⟩
  | 107 => ⟨S1048576x8, .i32⟩
  | 108 => ⟨S_, .i32⟩
  | 109 => ⟨S1048576x8, .i32⟩
  | 110 => ⟨S1048576x8, .i1⟩
  | 111 => ⟨S_, .i32⟩
  | 112 => ⟨S1048576x8, .i32⟩
  | 113 => ⟨S1048576x8, .i1⟩
  | 114 => ⟨S_, .i32⟩
  | 115 => ⟨S_, .i1⟩
  | 116 => ⟨S1048576x8, .i1⟩
  | 117 => ⟨S1048576x8, .i1⟩
  | 118 => ⟨S1048576x8, .i1⟩
  | 119 => ⟨S1048576x8, .i32⟩
  | 120 => ⟨S1048576x8, .i32⟩
  | 121 => ⟨S1048576x8, .i32⟩
  | 122 => ⟨S1048576x8, .i32⟩
  | 123 => ⟨S1x524288x2, .f32⟩
  | 124 => ⟨S524288x2, .f32⟩
  | 125 => ⟨S_, .i32⟩
  | 126 => ⟨S1048576x8, .i32⟩
  | 127 => ⟨S1048576x8, .i1⟩
  | _ => ⟨S1048576x3, .f32⟩

abbrev hbmTy0_9 (i : Nat) : BufTy := match i % 128 with
  | 0 => ⟨S_, .i32⟩
  | 1 => ⟨S1048576x8, .i32⟩
  | 2 => ⟨S1048576x8, .i32⟩
  | 3 => ⟨S1048576x8, .i32⟩
  | 4 => ⟨S1048576x8x1, .i32⟩
  | 5 => ⟨S1048576x8x2, .f32⟩
  | 6 => ⟨S1x8x3, .i32⟩
  | 7 => ⟨S_, .i32⟩
  | 8 => ⟨S1x8x3, .i32⟩
  | 9 => ⟨S1x8x3, .i1⟩
  | 10 => ⟨S1048576x1x3, .f32⟩
  | 11 => ⟨S1048576x1x3, .f32⟩
  | 12 => ⟨S_, .f32⟩
  | 13 => ⟨S1048576x1x3, .f32⟩
  | 14 => ⟨S1048576x1x3, .f32⟩
  | 15 => ⟨S1048576x8x3, .i1⟩
  | 16 => ⟨S1048576x8x3, .f32⟩
  | 17 => ⟨S1048576x8x3, .f32⟩
  | 18 => ⟨S1048576x8x3, .f32⟩
  | 19 => ⟨S1048576x8x1, .f32⟩
  | 20 => ⟨S1048576x8, .f32⟩
  | 21 => ⟨S1048576x8x1, .f32⟩
  | 22 => ⟨S1048576x8, .f32⟩
  | 23 => ⟨S1048576x8, .f32⟩
  | 24 => ⟨S1048576x8x1, .f32⟩
  | 25 => ⟨S1048576x8, .f32⟩
  | 26 => ⟨S1048576x8, .f32⟩
  | 27 => ⟨S1048576x8x1, .f32⟩
  | 28 => ⟨S1048576x8x2, .f32⟩
  | 29 => ⟨S1048576x8x2, .f32⟩
  | 30 => ⟨S_, .f32⟩
  | 31 => ⟨S1048576x2, .f32⟩
  | 32 => ⟨S_, .f32⟩
  | 33 => ⟨S1048576x3, .f32⟩
  | 34 => ⟨S1048576x3, .f32⟩
  | 35 => ⟨S1048576x3, .f32⟩
  | 36 => ⟨S1048576x3, .i32⟩
  | 37 => ⟨S_, .i32⟩
  | 38 => ⟨S_, .i32⟩
  | 39 => ⟨S_, .i32⟩
  | 40 => ⟨S1048576x3, .i32⟩
  | 41 => ⟨S1048576x3, .i32⟩
  | 42 => ⟨S_, .i32⟩
  | 43 => ⟨S1048576x3, .i32⟩
  | 44 => ⟨S1048576x3, .i32⟩
  | 45 => ⟨S1048576x3, .f32⟩
  | 46 => ⟨S1048576x3, .f32⟩
  | 47 => ⟨S1048576x1x3, .i32⟩
  | 48 => ⟨S1x8x3, .i32⟩
  | 49 => ⟨S1048576x8x3, .i32⟩
  | 50 => ⟨S1048576x8x3, .i32⟩
  | 51 => ⟨S1048576x8x3, .i32⟩
  | 52 => ⟨S1048576x8x3, .i32⟩
  | 53 => ⟨S1048576x8x1, .i32⟩
  | 54 => ⟨S1048576x8, .i32⟩
  | 55 => ⟨S_, .i32⟩
  | 56 => ⟨S1048576x8, .i32⟩
  | 57 => ⟨S1048576x8, .i32⟩
  | 58 => ⟨S1048576x8x1, .i32⟩
  | 59 => ⟨S1048576x8, .i32⟩
  | 60 => ⟨S_, .i32⟩
  | 61 => ⟨S1048576x8, .i32⟩
  | 62 => ⟨S1048576x8, .i32⟩
  | 63 => ⟨S1048576x8, .i32⟩
  | 64 => ⟨S1048576x8x1, .i32⟩
  | 65 => ⟨S1048576x8, .i32⟩
  | 66 => ⟨S_, .i32⟩
  | 67 => ⟨S1048576x8, .i32⟩
  | 68 => ⟨S1048576x8, .i32⟩
  | 69 => ⟨S1048576x8, .i32⟩
  | 70 => ⟨S_, .i32⟩
  | 71 => ⟨S_, .i32⟩
  | 72 => ⟨S_, .i1⟩
  | 73 => ⟨S_, .i32⟩
  | 74 => ⟨S_, .i32⟩
  | 75 => ⟨S1048576x8, .i32⟩
  | 76 => ⟨S1048576x8, .i32⟩
  | 77 => ⟨S_, .i32⟩
  | 78 => ⟨S1048576x8, .i32⟩
  | 79 => ⟨S1048576x8, .i1⟩
  | 80 => ⟨S_, .i32⟩
  | 81 => ⟨S1048576x8, .i32⟩
  | 82 => ⟨S1048576x8, .i1⟩
  | 83 => ⟨S_, .i32⟩
  | 84 => ⟨S_, .i1⟩
  | 85 => ⟨S1048576x8, .i1⟩
  | 86 => ⟨S1048576x8, .i1⟩
  | 87 => ⟨S1048576x8, .i1⟩
  | 88 => ⟨S1048576x8, .i32⟩
  | 89 => ⟨S1048576x8, .i32⟩
  | 90 => ⟨S1048576x8, .i32⟩
  | 91 => ⟨S1048576x8, .i32⟩
  | 92 => ⟨S1x524288x2, .f32⟩
  | 93 => ⟨S524288x2, .f32⟩
  | 94 => ⟨S_, .i32⟩
  | 95 => ⟨S1048576x8, .i32⟩
  | 96 => ⟨S1048576x8, .i1⟩
  | 97 => ⟨S_, .i32⟩
  | 98 => ⟨S1048576x8, .i32⟩
  | 99 => ⟨S1048576x8, .i32⟩
  | 100 => ⟨S1048576x8, .i32⟩
  | 101 => ⟨S1048576x8x1, .i32⟩
  | 102 => ⟨S1048576x8x2, .f32⟩
  | 103 => ⟨S1x8x3, .i32⟩
  | 104 => ⟨S_, .i32⟩
  | 105 => ⟨S1x8x3, .i32⟩
  | 106 => ⟨S1x8x3, .i1⟩
  | 107 => ⟨S1048576x1x3, .f32⟩
  | 108 => ⟨S1048576x1x3, .f32⟩
  | 109 => ⟨S_, .f32⟩
  | 110 => ⟨S1048576x1x3, .f32⟩
  | 111 => ⟨S1048576x1x3, .f32⟩
  | 112 => ⟨S1048576x8x3, .i1⟩
  | 113 => ⟨S1048576x8x3, .f32⟩
  | 114 => ⟨S1048576x8x3, .f32⟩
  | 115 => ⟨S1048576x8x3, .f32⟩
  | 116 => ⟨S1048576x8x1, .f32⟩
  | 117 => ⟨S1048576x8, .f32⟩
  | 118 => ⟨S1048576x8x1, .f32⟩
  | 119 => ⟨S1048576x8, .f32⟩
  | 120 => ⟨S1048576x8, .f32⟩
  | 121 => ⟨S1048576x8x1, .f32⟩
  | 122 => ⟨S1048576x8, .f32⟩
  | 123 => ⟨S1048576x8, .f32⟩
  | 124 => ⟨S1048576x8x1, .f32⟩
  | 125 => ⟨S1048576x8x2, .f32⟩
  | 126 => ⟨S1048576x8x2, .f32⟩
  | 127 => ⟨S_, .f32⟩
  | _ => ⟨S1048576x3, .f32⟩

abbrev hbmTy0_10 (i : Nat) : BufTy := match i % 128 with
  | 0 => ⟨S1048576x2, .f32⟩
  | 1 => ⟨S_, .f32⟩
  | 2 => ⟨S1048576x3, .f32⟩
  | 3 => ⟨S1048576x3, .f32⟩
  | 4 => ⟨S1048576x3, .f32⟩
  | 5 => ⟨S1048576x3, .i32⟩
  | 6 => ⟨S_, .i32⟩
  | 7 => ⟨S_, .i32⟩
  | 8 => ⟨S_, .i32⟩
  | 9 => ⟨S1048576x3, .i32⟩
  | 10 => ⟨S1048576x3, .i32⟩
  | 11 => ⟨S_, .i32⟩
  | 12 => ⟨S1048576x3, .i32⟩
  | 13 => ⟨S1048576x3, .i32⟩
  | 14 => ⟨S1048576x3, .f32⟩
  | 15 => ⟨S1048576x3, .f32⟩
  | 16 => ⟨S1048576x1x3, .i32⟩
  | 17 => ⟨S1x8x3, .i32⟩
  | 18 => ⟨S1048576x8x3, .i32⟩
  | 19 => ⟨S1048576x8x3, .i32⟩
  | 20 => ⟨S1048576x8x3, .i32⟩
  | 21 => ⟨S1048576x8x3, .i32⟩
  | 22 => ⟨S1048576x8x1, .i32⟩
  | 23 => ⟨S1048576x8, .i32⟩
  | 24 => ⟨S_, .i32⟩
  | 25 => ⟨S1048576x8, .i32⟩
  | 26 => ⟨S1048576x8, .i32⟩
  | 27 => ⟨S1048576x8x1, .i32⟩
  | 28 => ⟨S1048576x8, .i32⟩
  | 29 => ⟨S_, .i32⟩
  | 30 => ⟨S1048576x8, .i32⟩
  | 31 => ⟨S1048576x8, .i32⟩
  | 32 => ⟨S1048576x8, .i32⟩
  | 33 => ⟨S1048576x8x1, .i32⟩
  | 34 => ⟨S1048576x8, .i32⟩
  | 35 => ⟨S_, .i32⟩
  | 36 => ⟨S1048576x8, .i32⟩
  | 37 => ⟨S1048576x8, .i32⟩
  | 38 => ⟨S1048576x8, .i32⟩
  | 39 => ⟨S_, .i32⟩
  | 40 => ⟨S_, .i32⟩
  | 41 => ⟨S_, .i1⟩
  | 42 => ⟨S_, .i32⟩
  | 43 => ⟨S_, .i32⟩
  | 44 => ⟨S1048576x8, .i32⟩
  | 45 => ⟨S1048576x8, .i32⟩
  | 46 => ⟨S_, .i32⟩
  | 47 => ⟨S1048576x8, .i32⟩
  | 48 => ⟨S1048576x8, .i1⟩
  | 49 => ⟨S_, .i32⟩
  | 50 => ⟨S1048576x8, .i32⟩
  | 51 => ⟨S1048576x8, .i1⟩
  | 52 => ⟨S_, .i32⟩
  | 53 => ⟨S_, .i1⟩
  | 54 => ⟨S1048576x8, .i1⟩
  | 55 => ⟨S1048576x8, .i1⟩
  | 56 => ⟨S1048576x8, .i1⟩
  | 57 => ⟨S1048576x8, .i32⟩
  | 58 => ⟨S1048576x8, .i32⟩
  | 59 => ⟨S1048576x8, .i32⟩
  | 60 => ⟨S1048576x8, .i32⟩
  | 61 => ⟨S1x524288x2, .f32⟩
  | 62 => ⟨S524288x2, .f32⟩
  | 63 => ⟨S_, .i32⟩
  | 64 => ⟨S1048576x8, .i32⟩
  | 65 => ⟨S1048576x8, .i1⟩
  | 66 => ⟨S_, .i32⟩
  | 67 => ⟨S1048576x8, .i32⟩
  | 68 => ⟨S1048576x8, .i32⟩
  | 69 => ⟨S1048576x8, .i32⟩
  | 70 => ⟨S1048576x8x1, .i32⟩
  | 71 => ⟨S1048576x8x2, .f32⟩
  | 72 => ⟨S1x8x3, .i32⟩
  | 73 => ⟨S_, .i32⟩
  | 74 => ⟨S1x8x3, .i32⟩
  | 75 => ⟨S1x8x3, .i1⟩
  | 76 => ⟨S1048576x1x3, .f32⟩
  | 77 => ⟨S1048576x1x3, .f32⟩
  | 78 => ⟨S_, .f32⟩
  | 79 => ⟨S1048576x1x3, .f32⟩
  | 80 => ⟨S1048576x1x3, .f32⟩
  | 81 => ⟨S1048576x8x3, .i1⟩
  | 82 => ⟨S1048576x8x3, .f32⟩
  | 83 => ⟨S1048576x8x3, .f32⟩
  | 84 => ⟨S1048576x8x3, .f32⟩
  | 85 => ⟨S1048576x8x1, .f32⟩
  | 86 => ⟨S1048576x8, .f32⟩
  | 87 => ⟨S1048576x8x1, .f32⟩
  | 88 => ⟨S1048576x8, .f32⟩
  | 89 => ⟨S1048576x8, .f32⟩
  | 90 => ⟨S1048576x8x1, .f32⟩
  | 91 => ⟨S1048576x8, .f32⟩
  | 92 => ⟨S1048576x8, .f32⟩
  | 93 => ⟨S1048576x8x1, .f32⟩
  | 94 => ⟨S1048576x8x2, .f32⟩
  | 95 => ⟨S1048576x8x2, .f32⟩
  | 96 => ⟨S_, .f32⟩
  | 97 => ⟨S1048576x2, .f32⟩
  | 98 => ⟨S_, .f32⟩
  | 99 => ⟨S1048576x3, .f32⟩
  | 100 => ⟨S1048576x3, .f32⟩
  | 101 => ⟨S1048576x3, .f32⟩
  | 102 => ⟨S1048576x3, .i32⟩
  | 103 => ⟨S_, .i32⟩
  | 104 => ⟨S_, .i32⟩
  | 105 => ⟨S_, .i32⟩
  | 106 => ⟨S1048576x3, .i32⟩
  | 107 => ⟨S1048576x3, .i32⟩
  | 108 => ⟨S_, .i32⟩
  | 109 => ⟨S1048576x3, .i32⟩
  | 110 => ⟨S1048576x3, .i32⟩
  | 111 => ⟨S1048576x3, .f32⟩
  | 112 => ⟨S1048576x3, .f32⟩
  | 113 => ⟨S1048576x1x3, .i32⟩
  | 114 => ⟨S1x8x3, .i32⟩
  | 115 => ⟨S1048576x8x3, .i32⟩
  | 116 => ⟨S1048576x8x3, .i32⟩
  | 117 => ⟨S1048576x8x3, .i32⟩
  | 118 => ⟨S1048576x8x3, .i32⟩
  | 119 => ⟨S1048576x8x1, .i32⟩
  | 120 => ⟨S1048576x8, .i32⟩
  | 121 => ⟨S_, .i32⟩
  | 122 => ⟨S1048576x8, .i32⟩
  | 123 => ⟨S1048576x8, .i32⟩
  | 124 => ⟨S1048576x8x1, .i32⟩
  | 125 => ⟨S1048576x8, .i32⟩
  | 126 => ⟨S_, .i32⟩
  | 127 => ⟨S1048576x8, .i32⟩
  | _ => ⟨S1048576x3, .f32⟩

abbrev hbmTy0_11 (i : Nat) : BufTy := match i % 128 with
  | 0 => ⟨S1048576x8, .i32⟩
  | 1 => ⟨S1048576x8, .i32⟩
  | 2 => ⟨S1048576x8x1, .i32⟩
  | 3 => ⟨S1048576x8, .i32⟩
  | 4 => ⟨S_, .i32⟩
  | 5 => ⟨S1048576x8, .i32⟩
  | 6 => ⟨S1048576x8, .i32⟩
  | 7 => ⟨S1048576x8, .i32⟩
  | 8 => ⟨S_, .i32⟩
  | 9 => ⟨S_, .i32⟩
  | 10 => ⟨S_, .i1⟩
  | 11 => ⟨S_, .i32⟩
  | 12 => ⟨S_, .i32⟩
  | 13 => ⟨S1048576x8, .i32⟩
  | 14 => ⟨S1048576x8, .i32⟩
  | 15 => ⟨S_, .i32⟩
  | 16 => ⟨S1048576x8, .i32⟩
  | 17 => ⟨S1048576x8, .i1⟩
  | 18 => ⟨S_, .i32⟩
  | 19 => ⟨S1048576x8, .i32⟩
  | 20 => ⟨S1048576x8, .i1⟩
  | 21 => ⟨S_, .i32⟩
  | 22 => ⟨S_, .i1⟩
  | 23 => ⟨S1048576x8, .i1⟩
  | 24 => ⟨S1048576x8, .i1⟩
  | 25 => ⟨S1048576x8, .i1⟩
  | 26 => ⟨S1048576x8, .i32⟩
  | 27 => ⟨S1048576x8, .i32⟩
  | 28 => ⟨S1048576x8, .i32⟩
  | 29 => ⟨S1048576x8, .i32⟩
  | 30 => ⟨S1x524288x2, .f32⟩
  | 31 => ⟨S524288x2, .f32⟩
  | 32 => ⟨S_, .i32⟩
  | 33 => ⟨S1048576x8, .i32⟩
  | 34 => ⟨S1048576x8, .i1⟩
  | 35 => ⟨S_, .i32⟩
  | 36 => ⟨S1048576x8, .i32⟩
  | 37 => ⟨S1048576x8, .i32⟩
  | 38 => ⟨S1048576x8, .i32⟩
  | 39 => ⟨S1048576x8x1, .i32⟩
  | 40 => ⟨S1048576x8x2, .f32⟩
  | 41 => ⟨S1x8x3, .i32⟩
  | 42 => ⟨S_, .i32⟩
  | 43 => ⟨S1x8x3, .i32⟩
  | 44 => ⟨S1x8x3, .i1⟩
  | 45 => ⟨S1048576x1x3, .f32⟩
  | 46 => ⟨S1048576x1x3, .f32⟩
  | 47 => ⟨S_, .f32⟩
  | 48 => ⟨S1048576x1x3, .f32⟩
  | 49 => ⟨S1048576x1x3, .f32⟩
  | 50 => ⟨S1048576x8x3, .i1⟩
  | 51 => ⟨S1048576x8x3, .f32⟩
  | 52 => ⟨S1048576x8x3, .f32⟩
  | 53 => ⟨S1048576x8x3, .f32⟩
  | 54 => ⟨S1048576x8x1, .f32⟩
  | 55 => ⟨S1048576x8, .f32⟩
  | 56 => ⟨S1048576x8x1, .f32⟩
  | 57 => ⟨S1048576x8, .f32⟩
  | 58 => ⟨S1048576x8, .f32⟩
  | 59 => ⟨S1048576x8x1, .f32⟩
  | 60 => ⟨S1048576x8, .f32⟩
  | 61 => ⟨S1048576x8, .f32⟩
  | 62 => ⟨S1048576x8x1, .f32⟩
  | 63 => ⟨S1048576x8x2, .f32⟩
  | 64 => ⟨S1048576x8x2, .f32⟩
  | 65 => ⟨S_, .f32⟩
  | 66 => ⟨S1048576x2, .f32⟩
  | 67 => ⟨S1048576x32, .f32⟩
  | 68 => ⟨S1048576x35, .f32⟩
  | 69 => ⟨S64x1, .f32⟩
  | 70 => ⟨S64x35, .f32⟩
  | 71 => ⟨S64x35, .f32⟩
  | 72 => ⟨S64x35, .f32⟩
  | 73 => ⟨S_, .f32⟩
  | 74 => ⟨S64, .f32⟩
  | 75 => ⟨S64x1, .f32⟩
  | 76 => ⟨S64x1, .f32⟩
  | 77 => ⟨S64x35, .f32⟩
  | 78 => ⟨S64x35, .f32⟩
  | 79 => ⟨S35x64, .f32⟩
  | 80 => ⟨S1048576x64, .f32⟩
  | 81 => ⟨S1x64, .f32⟩
  | 82 => ⟨S1048576x64, .f32⟩
  | 83 => ⟨S1048576x64, .f32⟩
  | 84 => ⟨S_, .f32⟩
  | 85 => ⟨S1048576x64, .f32⟩
  | 86 => ⟨S1048576x64, .f32⟩
  | 87 => ⟨S_, .f32⟩
  | 88 => ⟨S1048576x64, .f32⟩
  | 89 => ⟨S1048576x64, .f32⟩
  | 90 => ⟨S1048576x64, .f32⟩
  | 91 => ⟨S1048576x64, .f32⟩
  | 92 => ⟨S1048576x64, .i1⟩
  | 93 => ⟨S1048576x64, .f32⟩
  | 94 => ⟨S1048576x64, .f32⟩
  | 95 => ⟨S1048576x64, .f32⟩
  | 96 => ⟨S1048576x64, .f32⟩
  | 97 => ⟨S1048576x64, .f32⟩
  | 98 => ⟨S1048576x64, .f32⟩
  | 99 => ⟨S1048576x64, .f32⟩
  | 100 => ⟨S1048576x64, .f32⟩
  | 101 => ⟨S_, .f32⟩
  | 102 => ⟨S1048576x64, .f32⟩
  | 103 => ⟨S1048576x64, .f32⟩
  | 104 => ⟨S1x1, .f32⟩
  | 105 => ⟨S1x64, .f32⟩
  | 106 => ⟨S1x64, .f32⟩
  | 107 => ⟨S1x64, .f32⟩
  | 108 => ⟨S_, .f32⟩
  | 109 => ⟨S1, .f32⟩
  | 110 => ⟨S1x1, .f32⟩
  | 111 => ⟨S1x1, .f32⟩
  | 112 => ⟨S1x64, .f32⟩
  | 113 => ⟨S1x64, .f32⟩
  | 114 => ⟨S64x1, .f32⟩
  | 115 => ⟨S1048576x1, .f32⟩
  | 116 => ⟨S1x1, .f32⟩
  | 117 => ⟨S1048576x1, .f32⟩
  | 118 => ⟨S1048576x1, .f32⟩
  | 119 => ⟨S1048576, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_c_14 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_15 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_16 : Ref sig .tc := ⟨.hbm, 119, rfl⟩
abbrev main_v80 : Ref sig .tc := ⟨.hbm, 120, rfl⟩
abbrev main_v81 : Ref sig .tc := ⟨.hbm, 121, rfl⟩
abbrev main_c_17 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_18 : Ref sig .tc := ⟨.hbm, 128, rfl⟩
abbrev main_v87 : Ref sig .tc := ⟨.hbm, 129, rfl⟩
abbrev main_v88 : Ref sig .tc := ⟨.hbm, 130, rfl⟩
abbrev main_c_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_20 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_22 : Ref sig .tc := ⟨.hbm, 161, rfl⟩
abbrev main_v113 : Ref sig .tc := ⟨.hbm, 162, rfl⟩
abbrev main_cst_23 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_24 : Ref sig .tc := ⟨.hbm, 168, rfl⟩
abbrev main_c_25 : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_c_26 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_c_27 : Ref sig .tc := ⟨.hbm, 193, rfl⟩
abbrev main_v135 : Ref sig .tc := ⟨.hbm, 194, rfl⟩
abbrev main_v136 : Ref sig .tc := ⟨.hbm, 195, rfl⟩
abbrev main_c_28 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_c_29 : Ref sig .tc := ⟨.hbm, 202, rfl⟩
abbrev main_v142 : Ref sig .tc := ⟨.hbm, 203, rfl⟩
abbrev main_v143 : Ref sig .tc := ⟨.hbm, 204, rfl⟩
abbrev main_c_30 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_c_31 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_32 : Ref sig .tc := ⟨.hbm, 217, rfl⟩
abbrev main_v154 : Ref sig .tc := ⟨.hbm, 218, rfl⟩
abbrev main_v155 : Ref sig .tc := ⟨.hbm, 219, rfl⟩
abbrev main_call5_v0 : Ref sig .tc := ⟨.hbm, 220, rfl⟩
abbrev main_call5_v1 : Ref sig .tc := ⟨.hbm, 221, rfl⟩
abbrev main_call5_v2 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_33 : Ref sig .tc := ⟨.hbm, 235, rfl⟩
abbrev main_v168 : Ref sig .tc := ⟨.hbm, 236, rfl⟩
abbrev main_cst_34 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_c_35 : Ref sig .tc := ⟨.hbm, 242, rfl⟩
abbrev main_c_36 : Ref sig .tc := ⟨.hbm, 243, rfl⟩
abbrev main_call6_v0 : Ref sig .tc := ⟨.hbm, 244, rfl⟩
abbrev main_call6_v1 : Ref sig .tc := ⟨.hbm, 245, rfl⟩
abbrev main_call6_v2 : Ref sig .tc := ⟨.hbm, 246, rfl⟩
abbrev main_call6_v3 : Ref sig .tc := ⟨.hbm, 247, rfl⟩
abbrev main_call6_v4 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_c_37 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_c_38 : Ref sig .tc := ⟨.hbm, 267, rfl⟩
abbrev main_v190 : Ref sig .tc := ⟨.hbm, 268, rfl⟩
abbrev main_v191 : Ref sig .tc := ⟨.hbm, 269, rfl⟩
abbrev main_c_39 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_c_40 : Ref sig .tc := ⟨.hbm, 276, rfl⟩
abbrev main_v197 : Ref sig .tc := ⟨.hbm, 277, rfl⟩
abbrev main_v198 : Ref sig .tc := ⟨.hbm, 278, rfl⟩
abbrev main_c_41 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_c_42 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_cst_43 : Ref sig .tc := ⟨.hbm, 291, rfl⟩
abbrev main_v209 : Ref sig .tc := ⟨.hbm, 292, rfl⟩
abbrev main_v210 : Ref sig .tc := ⟨.hbm, 293, rfl⟩
abbrev main_call7_v0 : Ref sig .tc := ⟨.hbm, 294, rfl⟩
abbrev main_call7_v1 : Ref sig .tc := ⟨.hbm, 295, rfl⟩
abbrev main_call7_v2 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_cst_44 : Ref sig .tc := ⟨.hbm, 309, rfl⟩
abbrev main_v223 : Ref sig .tc := ⟨.hbm, 310, rfl⟩
abbrev main_cst_45 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_c_46 : Ref sig .tc := ⟨.hbm, 316, rfl⟩
abbrev main_c_47 : Ref sig .tc := ⟨.hbm, 317, rfl⟩
abbrev main_call8_v0 : Ref sig .tc := ⟨.hbm, 318, rfl⟩
abbrev main_call8_v1 : Ref sig .tc := ⟨.hbm, 319, rfl⟩
abbrev main_call8_v2 : Ref sig .tc := ⟨.hbm, 320, rfl⟩
abbrev main_call8_v3 : Ref sig .tc := ⟨.hbm, 321, rfl⟩
abbrev main_call8_v4 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_c_48 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_c_49 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_c_50 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_c_51 : Ref sig .tc := ⟨.hbm, 349, rfl⟩
abbrev main_call9_c : Ref sig .tc := ⟨.hbm, 350, rfl⟩
abbrev main_call9_v0 : Ref sig .tc := ⟨.hbm, 351, rfl⟩
abbrev main_call9_c_0 : Ref sig .tc := ⟨.hbm, 352, rfl⟩
abbrev main_call9_v1 : Ref sig .tc := ⟨.hbm, 353, rfl⟩
abbrev main_call9_v2 : Ref sig .tc := ⟨.hbm, 354, rfl⟩
abbrev main_call9_v3 : Ref sig .tc := ⟨.hbm, 355, rfl⟩
abbrev main_call9_c_1 : Ref sig .tc := ⟨.hbm, 356, rfl⟩
abbrev main_call9_v4 : Ref sig .tc := ⟨.hbm, 357, rfl⟩
abbrev main_call9_v5 : Ref sig .tc := ⟨.hbm, 358, rfl⟩
abbrev main_call9_c_2 : Ref sig .tc := ⟨.hbm, 359, rfl⟩
abbrev main_call9_v6 : Ref sig .tc := ⟨.hbm, 360, rfl⟩
abbrev main_call9_v7 : Ref sig .tc := ⟨.hbm, 361, rfl⟩
abbrev main_call9_c_3 : Ref sig .tc := ⟨.hbm, 362, rfl⟩
abbrev main_call9_v8 : Ref sig .tc := ⟨.hbm, 363, rfl⟩
abbrev main_call9_v9 : Ref sig .tc := ⟨.hbm, 364, rfl⟩
abbrev main_call9_v10 : Ref sig .tc := ⟨.hbm, 365, rfl⟩
abbrev main_call9_v11 : Ref sig .tc := ⟨.hbm, 366, rfl⟩
abbrev main_call9_v12 : Ref sig .tc := ⟨.hbm, 367, rfl⟩
abbrev main_call9_v13 : Ref sig .tc := ⟨.hbm, 368, rfl⟩
abbrev main_v251 : Ref sig .tc := ⟨.hbm, 369, rfl⟩
abbrev main_v252 : Ref sig .tc := ⟨.hbm, 370, rfl⟩
abbrev main_v253 : Ref sig .tc := ⟨.hbm, 371, rfl⟩
abbrev main_v254 : Ref sig .tc := ⟨.hbm, 372, rfl⟩
abbrev main_c_52 : Ref sig .tc := ⟨.hbm, 373, rfl⟩
abbrev main_v255 : Ref sig .tc := ⟨.hbm, 374, rfl⟩
abbrev main_v256 : Ref sig .tc := ⟨.hbm, 375, rfl⟩
abbrev main_c_53 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_c_54 : Ref sig .tc := ⟨.hbm, 383, rfl⟩
abbrev main_v263 : Ref sig .tc := ⟨.hbm, 384, rfl⟩
abbrev main_v264 : Ref sig .tc := ⟨.hbm, 385, rfl⟩
abbrev main_v265 : Ref sig .tc := ⟨.hbm, 386, rfl⟩
abbrev main_v266 : Ref sig .tc := ⟨.hbm, 387, rfl⟩
abbrev main_cst_55 : Ref sig .tc := ⟨.hbm, 388, rfl⟩
abbrev main_v267 : Ref sig .tc := ⟨.hbm, 389, rfl⟩
abbrev main_v268 : Ref sig .tc := ⟨.hbm, 390, rfl⟩
abbrev main_call10_v0 : Ref sig .tc := ⟨.hbm, 391, rfl⟩
abbrev main_call10_v1 : Ref sig .tc := ⟨.hbm, 392, rfl⟩
abbrev main_call10_v2 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_v274 : Ref sig .tc := ⟨.hbm, 399, rfl⟩
abbrev main_v275 : Ref sig .tc := ⟨.hbm, 400, rfl⟩
abbrev main_v276 : Ref sig .tc := ⟨.hbm, 401, rfl⟩
abbrev main_v277 : Ref sig .tc := ⟨.hbm, 402, rfl⟩
abbrev main_v278 : Ref sig .tc := ⟨.hbm, 403, rfl⟩
abbrev main_v279 : Ref sig .tc := ⟨.hbm, 404, rfl⟩
abbrev main_v280 : Ref sig .tc := ⟨.hbm, 405, rfl⟩
abbrev main_cst_56 : Ref sig .tc := ⟨.hbm, 406, rfl⟩
abbrev main_v281 : Ref sig .tc := ⟨.hbm, 407, rfl⟩
abbrev main_cst_57 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_c_58 : Ref sig .tc := ⟨.hbm, 413, rfl⟩
abbrev main_c_59 : Ref sig .tc := ⟨.hbm, 414, rfl⟩
abbrev main_call11_v0 : Ref sig .tc := ⟨.hbm, 415, rfl⟩
abbrev main_call11_v1 : Ref sig .tc := ⟨.hbm, 416, rfl⟩
abbrev main_call11_v2 : Ref sig .tc := ⟨.hbm, 417, rfl⟩
abbrev main_call11_v3 : Ref sig .tc := ⟨.hbm, 418, rfl⟩
abbrev main_call11_v4 : Ref sig .tc := ⟨.hbm, 419, rfl⟩
abbrev main_v286 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_c_60 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_c_61 : Ref sig .tc := ⟨.hbm, 436, rfl⟩
abbrev main_v301 : Ref sig .tc := ⟨.hbm, 437, rfl⟩
abbrev main_v302 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_c_62 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_c_63 : Ref sig .tc := ⟨.hbm, 446, rfl⟩
abbrev main_call12_c : Ref sig .tc := ⟨.hbm, 447, rfl⟩
abbrev main_call12_v0 : Ref sig .tc := ⟨.hbm, 448, rfl⟩
abbrev main_call12_c_0 : Ref sig .tc := ⟨.hbm, 449, rfl⟩
abbrev main_call12_v1 : Ref sig .tc := ⟨.hbm, 450, rfl⟩
abbrev main_call12_v2 : Ref sig .tc := ⟨.hbm, 451, rfl⟩
abbrev main_call12_v3 : Ref sig .tc := ⟨.hbm, 452, rfl⟩
abbrev main_call12_c_1 : Ref sig .tc := ⟨.hbm, 453, rfl⟩
abbrev main_call12_v4 : Ref sig .tc := ⟨.hbm, 454, rfl⟩
abbrev main_call12_v5 : Ref sig .tc := ⟨.hbm, 455, rfl⟩
abbrev main_call12_c_2 : Ref sig .tc := ⟨.hbm, 456, rfl⟩
abbrev main_call12_v6 : Ref sig .tc := ⟨.hbm, 457, rfl⟩
abbrev main_call12_v7 : Ref sig .tc := ⟨.hbm, 458, rfl⟩
abbrev main_call12_c_3 : Ref sig .tc := ⟨.hbm, 459, rfl⟩
abbrev main_call12_v8 : Ref sig .tc := ⟨.hbm, 460, rfl⟩
abbrev main_call12_v9 : Ref sig .tc := ⟨.hbm, 461, rfl⟩
abbrev main_call12_v10 : Ref sig .tc := ⟨.hbm, 462, rfl⟩
abbrev main_call12_v11 : Ref sig .tc := ⟨.hbm, 463, rfl⟩
abbrev main_call12_v12 : Ref sig .tc := ⟨.hbm, 464, rfl⟩
abbrev main_call12_v13 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_v312 : Ref sig .tc := ⟨.hbm, 469, rfl⟩
abbrev main_c_64 : Ref sig .tc := ⟨.hbm, 470, rfl⟩
abbrev main_v313 : Ref sig .tc := ⟨.hbm, 471, rfl⟩
abbrev main_v314 : Ref sig .tc := ⟨.hbm, 472, rfl⟩
abbrev main_c_65 : Ref sig .tc := ⟨.hbm, 473, rfl⟩
abbrev main_v315 : Ref sig .tc := ⟨.hbm, 474, rfl⟩
abbrev main_v316 : Ref sig .tc := ⟨.hbm, 475, rfl⟩
abbrev main_v317 : Ref sig .tc := ⟨.hbm, 476, rfl⟩
abbrev main_v318 : Ref sig .tc := ⟨.hbm, 477, rfl⟩
abbrev main_v319 : Ref sig .tc := ⟨.hbm, 478, rfl⟩
abbrev main_v320 : Ref sig .tc := ⟨.hbm, 479, rfl⟩
abbrev main_c_66 : Ref sig .tc := ⟨.hbm, 480, rfl⟩
abbrev main_v321 : Ref sig .tc := ⟨.hbm, 481, rfl⟩
abbrev main_v322 : Ref sig .tc := ⟨.hbm, 482, rfl⟩
abbrev main_v323 : Ref sig .tc := ⟨.hbm, 483, rfl⟩
abbrev main_v324 : Ref sig .tc := ⟨.hbm, 484, rfl⟩
abbrev main_cst_67 : Ref sig .tc := ⟨.hbm, 485, rfl⟩
abbrev main_v325 : Ref sig .tc := ⟨.hbm, 486, rfl⟩
abbrev main_v326 : Ref sig .tc := ⟨.hbm, 487, rfl⟩
abbrev main_call13_v0 : Ref sig .tc := ⟨.hbm, 488, rfl⟩
abbrev main_call13_v1 : Ref sig .tc := ⟨.hbm, 489, rfl⟩
abbrev main_call13_v2 : Ref sig .tc := ⟨.hbm, 490, rfl⟩
abbrev main_v327 : Ref sig .tc := ⟨.hbm, 491, rfl⟩
abbrev main_v328 : Ref sig .tc := ⟨.hbm, 492, rfl⟩
abbrev main_v329 : Ref sig .tc := ⟨.hbm, 493, rfl⟩
abbrev main_v330 : Ref sig .tc := ⟨.hbm, 494, rfl⟩
abbrev main_v331 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_v335 : Ref sig .tc := ⟨.hbm, 499, rfl⟩
abbrev main_v336 : Ref sig .tc := ⟨.hbm, 500, rfl⟩
abbrev main_v337 : Ref sig .tc := ⟨.hbm, 501, rfl⟩
abbrev main_v338 : Ref sig .tc := ⟨.hbm, 502, rfl⟩
abbrev main_cst_68 : Ref sig .tc := ⟨.hbm, 503, rfl⟩
abbrev main_v339 : Ref sig .tc := ⟨.hbm, 504, rfl⟩
abbrev main_cst_69 : Ref sig .tc := ⟨.hbm, 505, rfl⟩
abbrev main_v340 : Ref sig .tc := ⟨.hbm, 506, rfl⟩
abbrev main_v341 : Ref sig .tc := ⟨.hbm, 507, rfl⟩
abbrev main_v342 : Ref sig .tc := ⟨.hbm, 508, rfl⟩
abbrev main_v343 : Ref sig .tc := ⟨.hbm, 509, rfl⟩
abbrev main_c_70 : Ref sig .tc := ⟨.hbm, 510, rfl⟩
abbrev main_c_71 : Ref sig .tc := ⟨.hbm, 511, rfl⟩
abbrev main_call14_v0 : Ref sig .tc := ⟨.hbm, 512, rfl⟩
abbrev main_call14_v1 : Ref sig .tc := ⟨.hbm, 513, rfl⟩
abbrev main_call14_v2 : Ref sig .tc := ⟨.hbm, 514, rfl⟩
abbrev main_call14_v3 : Ref sig .tc := ⟨.hbm, 515, rfl⟩
abbrev main_call14_v4 : Ref sig .tc := ⟨.hbm, 516, rfl⟩
abbrev main_v344 : Ref sig .tc := ⟨.hbm, 517, rfl⟩
abbrev main_v345 : Ref sig .tc := ⟨.hbm, 518, rfl⟩
abbrev main_v346 : Ref sig .tc := ⟨.hbm, 519, rfl⟩
abbrev main_v347 : Ref sig .tc := ⟨.hbm, 520, rfl⟩
abbrev main_v348 : Ref sig .tc := ⟨.hbm, 521, rfl⟩
abbrev main_v349 : Ref sig .tc := ⟨.hbm, 522, rfl⟩
abbrev main_v350 : Ref sig .tc := ⟨.hbm, 523, rfl⟩
abbrev main_v351 : Ref sig .tc := ⟨.hbm, 524, rfl⟩
abbrev main_v352 : Ref sig .tc := ⟨.hbm, 525, rfl⟩
abbrev main_v353 : Ref sig .tc := ⟨.hbm, 526, rfl⟩
abbrev main_v354 : Ref sig .tc := ⟨.hbm, 527, rfl⟩
abbrev main_c_72 : Ref sig .tc := ⟨.hbm, 528, rfl⟩
abbrev main_v355 : Ref sig .tc := ⟨.hbm, 529, rfl⟩
abbrev main_v356 : Ref sig .tc := ⟨.hbm, 530, rfl⟩
abbrev main_v357 : Ref sig .tc := ⟨.hbm, 531, rfl⟩
abbrev main_v358 : Ref sig .tc := ⟨.hbm, 532, rfl⟩
abbrev main_c_73 : Ref sig .tc := ⟨.hbm, 533, rfl⟩
abbrev main_v359 : Ref sig .tc := ⟨.hbm, 534, rfl⟩
abbrev main_v360 : Ref sig .tc := ⟨.hbm, 535, rfl⟩
abbrev main_v361 : Ref sig .tc := ⟨.hbm, 536, rfl⟩
abbrev main_v362 : Ref sig .tc := ⟨.hbm, 537, rfl⟩
abbrev main_v363 : Ref sig .tc := ⟨.hbm, 538, rfl⟩
abbrev main_c_74 : Ref sig .tc := ⟨.hbm, 539, rfl⟩
abbrev main_v364 : Ref sig .tc := ⟨.hbm, 540, rfl⟩
abbrev main_v365 : Ref sig .tc := ⟨.hbm, 541, rfl⟩
abbrev main_v366 : Ref sig .tc := ⟨.hbm, 542, rfl⟩
abbrev main_c_75 : Ref sig .tc := ⟨.hbm, 543, rfl⟩
abbrev main_call15_c : Ref sig .tc := ⟨.hbm, 544, rfl⟩
abbrev main_call15_v0 : Ref sig .tc := ⟨.hbm, 545, rfl⟩
abbrev main_call15_c_0 : Ref sig .tc := ⟨.hbm, 546, rfl⟩
abbrev main_call15_v1 : Ref sig .tc := ⟨.hbm, 547, rfl⟩
abbrev main_call15_v2 : Ref sig .tc := ⟨.hbm, 548, rfl⟩
abbrev main_call15_v3 : Ref sig .tc := ⟨.hbm, 549, rfl⟩
abbrev main_call15_c_1 : Ref sig .tc := ⟨.hbm, 550, rfl⟩
abbrev main_call15_v4 : Ref sig .tc := ⟨.hbm, 551, rfl⟩
abbrev main_call15_v5 : Ref sig .tc := ⟨.hbm, 552, rfl⟩
abbrev main_call15_c_2 : Ref sig .tc := ⟨.hbm, 553, rfl⟩
abbrev main_call15_v6 : Ref sig .tc := ⟨.hbm, 554, rfl⟩
abbrev main_call15_v7 : Ref sig .tc := ⟨.hbm, 555, rfl⟩
abbrev main_call15_c_3 : Ref sig .tc := ⟨.hbm, 556, rfl⟩
abbrev main_call15_v8 : Ref sig .tc := ⟨.hbm, 557, rfl⟩
abbrev main_call15_v9 : Ref sig .tc := ⟨.hbm, 558, rfl⟩
abbrev main_call15_v10 : Ref sig .tc := ⟨.hbm, 559, rfl⟩
abbrev main_call15_v11 : Ref sig .tc := ⟨.hbm, 560, rfl⟩
abbrev main_call15_v12 : Ref sig .tc := ⟨.hbm, 561, rfl⟩
abbrev main_call15_v13 : Ref sig .tc := ⟨.hbm, 562, rfl⟩
abbrev main_v367 : Ref sig .tc := ⟨.hbm, 563, rfl⟩
abbrev main_v368 : Ref sig .tc := ⟨.hbm, 564, rfl⟩
abbrev main_v369 : Ref sig .tc := ⟨.hbm, 565, rfl⟩
abbrev main_v370 : Ref sig .tc := ⟨.hbm, 566, rfl⟩
abbrev main_c_76 : Ref sig .tc := ⟨.hbm, 567, rfl⟩
abbrev main_v371 : Ref sig .tc := ⟨.hbm, 568, rfl⟩
abbrev main_v372 : Ref sig .tc := ⟨.hbm, 569, rfl⟩
abbrev main_c_77 : Ref sig .tc := ⟨.hbm, 570, rfl⟩
abbrev main_v373 : Ref sig .tc := ⟨.hbm, 571, rfl⟩
abbrev main_v374 : Ref sig .tc := ⟨.hbm, 572, rfl⟩
abbrev main_v375 : Ref sig .tc := ⟨.hbm, 573, rfl⟩
abbrev main_v376 : Ref sig .tc := ⟨.hbm, 574, rfl⟩
abbrev main_v377 : Ref sig .tc := ⟨.hbm, 575, rfl⟩
abbrev main_v378 : Ref sig .tc := ⟨.hbm, 576, rfl⟩
abbrev main_c_78 : Ref sig .tc := ⟨.hbm, 577, rfl⟩
abbrev main_v379 : Ref sig .tc := ⟨.hbm, 578, rfl⟩
abbrev main_v380 : Ref sig .tc := ⟨.hbm, 579, rfl⟩
abbrev main_v381 : Ref sig .tc := ⟨.hbm, 580, rfl⟩
abbrev main_v382 : Ref sig .tc := ⟨.hbm, 581, rfl⟩
abbrev main_cst_79 : Ref sig .tc := ⟨.hbm, 582, rfl⟩
abbrev main_v383 : Ref sig .tc := ⟨.hbm, 583, rfl⟩
abbrev main_v384 : Ref sig .tc := ⟨.hbm, 584, rfl⟩
abbrev main_call16_v0 : Ref sig .tc := ⟨.hbm, 585, rfl⟩
abbrev main_call16_v1 : Ref sig .tc := ⟨.hbm, 586, rfl⟩
abbrev main_call16_v2 : Ref sig .tc := ⟨.hbm, 587, rfl⟩
abbrev main_v385 : Ref sig .tc := ⟨.hbm, 588, rfl⟩
abbrev main_v386 : Ref sig .tc := ⟨.hbm, 589, rfl⟩
abbrev main_v387 : Ref sig .tc := ⟨.hbm, 590, rfl⟩
abbrev main_v388 : Ref sig .tc := ⟨.hbm, 591, rfl⟩
abbrev main_v389 : Ref sig .tc := ⟨.hbm, 592, rfl⟩
abbrev main_v390 : Ref sig .tc := ⟨.hbm, 593, rfl⟩
abbrev main_v391 : Ref sig .tc := ⟨.hbm, 594, rfl⟩
abbrev main_v392 : Ref sig .tc := ⟨.hbm, 595, rfl⟩
abbrev main_v393 : Ref sig .tc := ⟨.hbm, 596, rfl⟩
abbrev main_v394 : Ref sig .tc := ⟨.hbm, 597, rfl⟩
abbrev main_v395 : Ref sig .tc := ⟨.hbm, 598, rfl⟩
abbrev main_v396 : Ref sig .tc := ⟨.hbm, 599, rfl⟩
abbrev main_cst_80 : Ref sig .tc := ⟨.hbm, 600, rfl⟩
abbrev main_v397 : Ref sig .tc := ⟨.hbm, 601, rfl⟩
abbrev main_cst_81 : Ref sig .tc := ⟨.hbm, 602, rfl⟩
abbrev main_v398 : Ref sig .tc := ⟨.hbm, 603, rfl⟩
abbrev main_v399 : Ref sig .tc := ⟨.hbm, 604, rfl⟩
abbrev main_v400 : Ref sig .tc := ⟨.hbm, 605, rfl⟩
abbrev main_v401 : Ref sig .tc := ⟨.hbm, 606, rfl⟩
abbrev main_c_82 : Ref sig .tc := ⟨.hbm, 607, rfl⟩
abbrev main_c_83 : Ref sig .tc := ⟨.hbm, 608, rfl⟩
abbrev main_call17_v0 : Ref sig .tc := ⟨.hbm, 609, rfl⟩
abbrev main_call17_v1 : Ref sig .tc := ⟨.hbm, 610, rfl⟩
abbrev main_call17_v2 : Ref sig .tc := ⟨.hbm, 611, rfl⟩
abbrev main_call17_v3 : Ref sig .tc := ⟨.hbm, 612, rfl⟩
abbrev main_call17_v4 : Ref sig .tc := ⟨.hbm, 613, rfl⟩
abbrev main_v402 : Ref sig .tc := ⟨.hbm, 614, rfl⟩
abbrev main_v403 : Ref sig .tc := ⟨.hbm, 615, rfl⟩
abbrev main_v404 : Ref sig .tc := ⟨.hbm, 616, rfl⟩
abbrev main_v405 : Ref sig .tc := ⟨.hbm, 617, rfl⟩
abbrev main_v406 : Ref sig .tc := ⟨.hbm, 618, rfl⟩
abbrev main_v407 : Ref sig .tc := ⟨.hbm, 619, rfl⟩
abbrev main_v408 : Ref sig .tc := ⟨.hbm, 620, rfl⟩
abbrev main_v409 : Ref sig .tc := ⟨.hbm, 621, rfl⟩
abbrev main_v410 : Ref sig .tc := ⟨.hbm, 622, rfl⟩
abbrev main_v411 : Ref sig .tc := ⟨.hbm, 623, rfl⟩
abbrev main_v412 : Ref sig .tc := ⟨.hbm, 624, rfl⟩
abbrev main_c_84 : Ref sig .tc := ⟨.hbm, 625, rfl⟩
abbrev main_v413 : Ref sig .tc := ⟨.hbm, 626, rfl⟩
abbrev main_v414 : Ref sig .tc := ⟨.hbm, 627, rfl⟩
abbrev main_v415 : Ref sig .tc := ⟨.hbm, 628, rfl⟩
abbrev main_v416 : Ref sig .tc := ⟨.hbm, 629, rfl⟩
abbrev main_c_85 : Ref sig .tc := ⟨.hbm, 630, rfl⟩
abbrev main_v417 : Ref sig .tc := ⟨.hbm, 631, rfl⟩
abbrev main_v418 : Ref sig .tc := ⟨.hbm, 632, rfl⟩
abbrev main_v419 : Ref sig .tc := ⟨.hbm, 633, rfl⟩
abbrev main_v420 : Ref sig .tc := ⟨.hbm, 634, rfl⟩
abbrev main_v421 : Ref sig .tc := ⟨.hbm, 635, rfl⟩
abbrev main_c_86 : Ref sig .tc := ⟨.hbm, 636, rfl⟩
abbrev main_v422 : Ref sig .tc := ⟨.hbm, 637, rfl⟩
abbrev main_v423 : Ref sig .tc := ⟨.hbm, 638, rfl⟩
abbrev main_v424 : Ref sig .tc := ⟨.hbm, 639, rfl⟩
abbrev main_c_87 : Ref sig .tc := ⟨.hbm, 640, rfl⟩
abbrev main_call18_c : Ref sig .tc := ⟨.hbm, 641, rfl⟩
abbrev main_call18_v0 : Ref sig .tc := ⟨.hbm, 642, rfl⟩
abbrev main_call18_c_0 : Ref sig .tc := ⟨.hbm, 643, rfl⟩
abbrev main_call18_v1 : Ref sig .tc := ⟨.hbm, 644, rfl⟩
abbrev main_call18_v2 : Ref sig .tc := ⟨.hbm, 645, rfl⟩
abbrev main_call18_v3 : Ref sig .tc := ⟨.hbm, 646, rfl⟩
abbrev main_call18_c_1 : Ref sig .tc := ⟨.hbm, 647, rfl⟩
abbrev main_call18_v4 : Ref sig .tc := ⟨.hbm, 648, rfl⟩
abbrev main_call18_v5 : Ref sig .tc := ⟨.hbm, 649, rfl⟩
abbrev main_call18_c_2 : Ref sig .tc := ⟨.hbm, 650, rfl⟩
abbrev main_call18_v6 : Ref sig .tc := ⟨.hbm, 651, rfl⟩
abbrev main_call18_v7 : Ref sig .tc := ⟨.hbm, 652, rfl⟩
abbrev main_call18_c_3 : Ref sig .tc := ⟨.hbm, 653, rfl⟩
abbrev main_call18_v8 : Ref sig .tc := ⟨.hbm, 654, rfl⟩
abbrev main_call18_v9 : Ref sig .tc := ⟨.hbm, 655, rfl⟩
abbrev main_call18_v10 : Ref sig .tc := ⟨.hbm, 656, rfl⟩
abbrev main_call18_v11 : Ref sig .tc := ⟨.hbm, 657, rfl⟩
abbrev main_call18_v12 : Ref sig .tc := ⟨.hbm, 658, rfl⟩
abbrev main_call18_v13 : Ref sig .tc := ⟨.hbm, 659, rfl⟩
abbrev main_v425 : Ref sig .tc := ⟨.hbm, 660, rfl⟩
abbrev main_v426 : Ref sig .tc := ⟨.hbm, 661, rfl⟩
abbrev main_v427 : Ref sig .tc := ⟨.hbm, 662, rfl⟩
abbrev main_v428 : Ref sig .tc := ⟨.hbm, 663, rfl⟩
abbrev main_c_88 : Ref sig .tc := ⟨.hbm, 664, rfl⟩
abbrev main_v429 : Ref sig .tc := ⟨.hbm, 665, rfl⟩
abbrev main_v430 : Ref sig .tc := ⟨.hbm, 666, rfl⟩
abbrev main_c_89 : Ref sig .tc := ⟨.hbm, 667, rfl⟩
abbrev main_v431 : Ref sig .tc := ⟨.hbm, 668, rfl⟩
abbrev main_v432 : Ref sig .tc := ⟨.hbm, 669, rfl⟩
abbrev main_v433 : Ref sig .tc := ⟨.hbm, 670, rfl⟩
abbrev main_v434 : Ref sig .tc := ⟨.hbm, 671, rfl⟩
abbrev main_v435 : Ref sig .tc := ⟨.hbm, 672, rfl⟩
abbrev main_v436 : Ref sig .tc := ⟨.hbm, 673, rfl⟩
abbrev main_c_90 : Ref sig .tc := ⟨.hbm, 674, rfl⟩
abbrev main_v437 : Ref sig .tc := ⟨.hbm, 675, rfl⟩
abbrev main_v438 : Ref sig .tc := ⟨.hbm, 676, rfl⟩
abbrev main_v439 : Ref sig .tc := ⟨.hbm, 677, rfl⟩
abbrev main_v440 : Ref sig .tc := ⟨.hbm, 678, rfl⟩
abbrev main_cst_91 : Ref sig .tc := ⟨.hbm, 679, rfl⟩
abbrev main_v441 : Ref sig .tc := ⟨.hbm, 680, rfl⟩
abbrev main_v442 : Ref sig .tc := ⟨.hbm, 681, rfl⟩
abbrev main_call19_v0 : Ref sig .tc := ⟨.hbm, 682, rfl⟩
abbrev main_call19_v1 : Ref sig .tc := ⟨.hbm, 683, rfl⟩
abbrev main_call19_v2 : Ref sig .tc := ⟨.hbm, 684, rfl⟩
abbrev main_v443 : Ref sig .tc := ⟨.hbm, 685, rfl⟩
abbrev main_v444 : Ref sig .tc := ⟨.hbm, 686, rfl⟩
abbrev main_v445 : Ref sig .tc := ⟨.hbm, 687, rfl⟩
abbrev main_v446 : Ref sig .tc := ⟨.hbm, 688, rfl⟩
abbrev main_v447 : Ref sig .tc := ⟨.hbm, 689, rfl⟩
abbrev main_v448 : Ref sig .tc := ⟨.hbm, 690, rfl⟩
abbrev main_v449 : Ref sig .tc := ⟨.hbm, 691, rfl⟩
abbrev main_v450 : Ref sig .tc := ⟨.hbm, 692, rfl⟩
abbrev main_v451 : Ref sig .tc := ⟨.hbm, 693, rfl⟩
abbrev main_v452 : Ref sig .tc := ⟨.hbm, 694, rfl⟩
abbrev main_v453 : Ref sig .tc := ⟨.hbm, 695, rfl⟩
abbrev main_v454 : Ref sig .tc := ⟨.hbm, 696, rfl⟩
abbrev main_cst_92 : Ref sig .tc := ⟨.hbm, 697, rfl⟩
abbrev main_v455 : Ref sig .tc := ⟨.hbm, 698, rfl⟩
abbrev main_cst_93 : Ref sig .tc := ⟨.hbm, 699, rfl⟩
abbrev main_v456 : Ref sig .tc := ⟨.hbm, 700, rfl⟩
abbrev main_v457 : Ref sig .tc := ⟨.hbm, 701, rfl⟩
abbrev main_v458 : Ref sig .tc := ⟨.hbm, 702, rfl⟩
abbrev main_v459 : Ref sig .tc := ⟨.hbm, 703, rfl⟩
abbrev main_c_94 : Ref sig .tc := ⟨.hbm, 704, rfl⟩
abbrev main_c_95 : Ref sig .tc := ⟨.hbm, 705, rfl⟩
abbrev main_call20_v0 : Ref sig .tc := ⟨.hbm, 706, rfl⟩
abbrev main_call20_v1 : Ref sig .tc := ⟨.hbm, 707, rfl⟩
abbrev main_call20_v2 : Ref sig .tc := ⟨.hbm, 708, rfl⟩
abbrev main_call20_v3 : Ref sig .tc := ⟨.hbm, 709, rfl⟩
abbrev main_call20_v4 : Ref sig .tc := ⟨.hbm, 710, rfl⟩
abbrev main_v460 : Ref sig .tc := ⟨.hbm, 711, rfl⟩
abbrev main_v461 : Ref sig .tc := ⟨.hbm, 712, rfl⟩
abbrev main_v462 : Ref sig .tc := ⟨.hbm, 713, rfl⟩
abbrev main_v463 : Ref sig .tc := ⟨.hbm, 714, rfl⟩
abbrev main_v464 : Ref sig .tc := ⟨.hbm, 715, rfl⟩
abbrev main_v465 : Ref sig .tc := ⟨.hbm, 716, rfl⟩
abbrev main_v466 : Ref sig .tc := ⟨.hbm, 717, rfl⟩
abbrev main_v467 : Ref sig .tc := ⟨.hbm, 718, rfl⟩
abbrev main_v468 : Ref sig .tc := ⟨.hbm, 719, rfl⟩
abbrev main_v469 : Ref sig .tc := ⟨.hbm, 720, rfl⟩
abbrev main_v470 : Ref sig .tc := ⟨.hbm, 721, rfl⟩
abbrev main_c_96 : Ref sig .tc := ⟨.hbm, 722, rfl⟩
abbrev main_v471 : Ref sig .tc := ⟨.hbm, 723, rfl⟩
abbrev main_v472 : Ref sig .tc := ⟨.hbm, 724, rfl⟩
abbrev main_v473 : Ref sig .tc := ⟨.hbm, 725, rfl⟩
abbrev main_v474 : Ref sig .tc := ⟨.hbm, 726, rfl⟩
abbrev main_c_97 : Ref sig .tc := ⟨.hbm, 727, rfl⟩
abbrev main_v475 : Ref sig .tc := ⟨.hbm, 728, rfl⟩
abbrev main_v476 : Ref sig .tc := ⟨.hbm, 729, rfl⟩
abbrev main_v477 : Ref sig .tc := ⟨.hbm, 730, rfl⟩
abbrev main_v478 : Ref sig .tc := ⟨.hbm, 731, rfl⟩
abbrev main_v479 : Ref sig .tc := ⟨.hbm, 732, rfl⟩
abbrev main_c_98 : Ref sig .tc := ⟨.hbm, 733, rfl⟩
abbrev main_v480 : Ref sig .tc := ⟨.hbm, 734, rfl⟩
abbrev main_v481 : Ref sig .tc := ⟨.hbm, 735, rfl⟩
abbrev main_v482 : Ref sig .tc := ⟨.hbm, 736, rfl⟩
abbrev main_c_99 : Ref sig .tc := ⟨.hbm, 737, rfl⟩
abbrev main_call21_c : Ref sig .tc := ⟨.hbm, 738, rfl⟩
abbrev main_call21_v0 : Ref sig .tc := ⟨.hbm, 739, rfl⟩
abbrev main_call21_c_0 : Ref sig .tc := ⟨.hbm, 740, rfl⟩
abbrev main_call21_v1 : Ref sig .tc := ⟨.hbm, 741, rfl⟩
abbrev main_call21_v2 : Ref sig .tc := ⟨.hbm, 742, rfl⟩
abbrev main_call21_v3 : Ref sig .tc := ⟨.hbm, 743, rfl⟩
abbrev main_call21_c_1 : Ref sig .tc := ⟨.hbm, 744, rfl⟩
abbrev main_call21_v4 : Ref sig .tc := ⟨.hbm, 745, rfl⟩
abbrev main_call21_v5 : Ref sig .tc := ⟨.hbm, 746, rfl⟩
abbrev main_call21_c_2 : Ref sig .tc := ⟨.hbm, 747, rfl⟩
abbrev main_call21_v6 : Ref sig .tc := ⟨.hbm, 748, rfl⟩
abbrev main_call21_v7 : Ref sig .tc := ⟨.hbm, 749, rfl⟩
abbrev main_call21_c_3 : Ref sig .tc := ⟨.hbm, 750, rfl⟩
abbrev main_call21_v8 : Ref sig .tc := ⟨.hbm, 751, rfl⟩
abbrev main_call21_v9 : Ref sig .tc := ⟨.hbm, 752, rfl⟩
abbrev main_call21_v10 : Ref sig .tc := ⟨.hbm, 753, rfl⟩
abbrev main_call21_v11 : Ref sig .tc := ⟨.hbm, 754, rfl⟩
abbrev main_call21_v12 : Ref sig .tc := ⟨.hbm, 755, rfl⟩
abbrev main_call21_v13 : Ref sig .tc := ⟨.hbm, 756, rfl⟩
abbrev main_v483 : Ref sig .tc := ⟨.hbm, 757, rfl⟩
abbrev main_v484 : Ref sig .tc := ⟨.hbm, 758, rfl⟩
abbrev main_v485 : Ref sig .tc := ⟨.hbm, 759, rfl⟩
abbrev main_v486 : Ref sig .tc := ⟨.hbm, 760, rfl⟩
abbrev main_c_100 : Ref sig .tc := ⟨.hbm, 761, rfl⟩
abbrev main_v487 : Ref sig .tc := ⟨.hbm, 762, rfl⟩
abbrev main_v488 : Ref sig .tc := ⟨.hbm, 763, rfl⟩
abbrev main_c_101 : Ref sig .tc := ⟨.hbm, 764, rfl⟩
abbrev main_v489 : Ref sig .tc := ⟨.hbm, 765, rfl⟩
abbrev main_v490 : Ref sig .tc := ⟨.hbm, 766, rfl⟩
abbrev main_v491 : Ref sig .tc := ⟨.hbm, 767, rfl⟩
abbrev main_v492 : Ref sig .tc := ⟨.hbm, 768, rfl⟩
abbrev main_v493 : Ref sig .tc := ⟨.hbm, 769, rfl⟩
abbrev main_v494 : Ref sig .tc := ⟨.hbm, 770, rfl⟩
abbrev main_c_102 : Ref sig .tc := ⟨.hbm, 771, rfl⟩
abbrev main_v495 : Ref sig .tc := ⟨.hbm, 772, rfl⟩
abbrev main_v496 : Ref sig .tc := ⟨.hbm, 773, rfl⟩
abbrev main_v497 : Ref sig .tc := ⟨.hbm, 774, rfl⟩
abbrev main_v498 : Ref sig .tc := ⟨.hbm, 775, rfl⟩
abbrev main_cst_103 : Ref sig .tc := ⟨.hbm, 776, rfl⟩
abbrev main_v499 : Ref sig .tc := ⟨.hbm, 777, rfl⟩
abbrev main_v500 : Ref sig .tc := ⟨.hbm, 778, rfl⟩
abbrev main_call22_v0 : Ref sig .tc := ⟨.hbm, 779, rfl⟩
abbrev main_call22_v1 : Ref sig .tc := ⟨.hbm, 780, rfl⟩
abbrev main_call22_v2 : Ref sig .tc := ⟨.hbm, 781, rfl⟩
abbrev main_v501 : Ref sig .tc := ⟨.hbm, 782, rfl⟩
abbrev main_v502 : Ref sig .tc := ⟨.hbm, 783, rfl⟩
abbrev main_v503 : Ref sig .tc := ⟨.hbm, 784, rfl⟩
abbrev main_v504 : Ref sig .tc := ⟨.hbm, 785, rfl⟩
abbrev main_v505 : Ref sig .tc := ⟨.hbm, 786, rfl⟩
abbrev main_v506 : Ref sig .tc := ⟨.hbm, 787, rfl⟩
abbrev main_v507 : Ref sig .tc := ⟨.hbm, 788, rfl⟩
abbrev main_v508 : Ref sig .tc := ⟨.hbm, 789, rfl⟩
abbrev main_v509 : Ref sig .tc := ⟨.hbm, 790, rfl⟩
abbrev main_v510 : Ref sig .tc := ⟨.hbm, 791, rfl⟩
abbrev main_v511 : Ref sig .tc := ⟨.hbm, 792, rfl⟩
abbrev main_v512 : Ref sig .tc := ⟨.hbm, 793, rfl⟩
abbrev main_cst_104 : Ref sig .tc := ⟨.hbm, 794, rfl⟩
abbrev main_v513 : Ref sig .tc := ⟨.hbm, 795, rfl⟩
abbrev main_cst_105 : Ref sig .tc := ⟨.hbm, 796, rfl⟩
abbrev main_v514 : Ref sig .tc := ⟨.hbm, 797, rfl⟩
abbrev main_v515 : Ref sig .tc := ⟨.hbm, 798, rfl⟩
abbrev main_v516 : Ref sig .tc := ⟨.hbm, 799, rfl⟩
abbrev main_v517 : Ref sig .tc := ⟨.hbm, 800, rfl⟩
abbrev main_c_106 : Ref sig .tc := ⟨.hbm, 801, rfl⟩
abbrev main_c_107 : Ref sig .tc := ⟨.hbm, 802, rfl⟩
abbrev main_call23_v0 : Ref sig .tc := ⟨.hbm, 803, rfl⟩
abbrev main_call23_v1 : Ref sig .tc := ⟨.hbm, 804, rfl⟩
abbrev main_call23_v2 : Ref sig .tc := ⟨.hbm, 805, rfl⟩
abbrev main_call23_v3 : Ref sig .tc := ⟨.hbm, 806, rfl⟩
abbrev main_call23_v4 : Ref sig .tc := ⟨.hbm, 807, rfl⟩
abbrev main_v518 : Ref sig .tc := ⟨.hbm, 808, rfl⟩
abbrev main_v519 : Ref sig .tc := ⟨.hbm, 809, rfl⟩
abbrev main_v520 : Ref sig .tc := ⟨.hbm, 810, rfl⟩
abbrev main_v521 : Ref sig .tc := ⟨.hbm, 811, rfl⟩
abbrev main_v522 : Ref sig .tc := ⟨.hbm, 812, rfl⟩
abbrev main_v523 : Ref sig .tc := ⟨.hbm, 813, rfl⟩
abbrev main_v524 : Ref sig .tc := ⟨.hbm, 814, rfl⟩
abbrev main_v525 : Ref sig .tc := ⟨.hbm, 815, rfl⟩
abbrev main_v526 : Ref sig .tc := ⟨.hbm, 816, rfl⟩
abbrev main_v527 : Ref sig .tc := ⟨.hbm, 817, rfl⟩
abbrev main_v528 : Ref sig .tc := ⟨.hbm, 818, rfl⟩
abbrev main_c_108 : Ref sig .tc := ⟨.hbm, 819, rfl⟩
abbrev main_v529 : Ref sig .tc := ⟨.hbm, 820, rfl⟩
abbrev main_v530 : Ref sig .tc := ⟨.hbm, 821, rfl⟩
abbrev main_v531 : Ref sig .tc := ⟨.hbm, 822, rfl⟩
abbrev main_v532 : Ref sig .tc := ⟨.hbm, 823, rfl⟩
abbrev main_c_109 : Ref sig .tc := ⟨.hbm, 824, rfl⟩
abbrev main_v533 : Ref sig .tc := ⟨.hbm, 825, rfl⟩
abbrev main_v534 : Ref sig .tc := ⟨.hbm, 826, rfl⟩
abbrev main_v535 : Ref sig .tc := ⟨.hbm, 827, rfl⟩
abbrev main_v536 : Ref sig .tc := ⟨.hbm, 828, rfl⟩
abbrev main_v537 : Ref sig .tc := ⟨.hbm, 829, rfl⟩
abbrev main_c_110 : Ref sig .tc := ⟨.hbm, 830, rfl⟩
abbrev main_v538 : Ref sig .tc := ⟨.hbm, 831, rfl⟩
abbrev main_v539 : Ref sig .tc := ⟨.hbm, 832, rfl⟩
abbrev main_v540 : Ref sig .tc := ⟨.hbm, 833, rfl⟩
abbrev main_c_111 : Ref sig .tc := ⟨.hbm, 834, rfl⟩
abbrev main_call24_c : Ref sig .tc := ⟨.hbm, 835, rfl⟩
abbrev main_call24_v0 : Ref sig .tc := ⟨.hbm, 836, rfl⟩
abbrev main_call24_c_0 : Ref sig .tc := ⟨.hbm, 837, rfl⟩
abbrev main_call24_v1 : Ref sig .tc := ⟨.hbm, 838, rfl⟩
abbrev main_call24_v2 : Ref sig .tc := ⟨.hbm, 839, rfl⟩
abbrev main_call24_v3 : Ref sig .tc := ⟨.hbm, 840, rfl⟩
abbrev main_call24_c_1 : Ref sig .tc := ⟨.hbm, 841, rfl⟩
abbrev main_call24_v4 : Ref sig .tc := ⟨.hbm, 842, rfl⟩
abbrev main_call24_v5 : Ref sig .tc := ⟨.hbm, 843, rfl⟩
abbrev main_call24_c_2 : Ref sig .tc := ⟨.hbm, 844, rfl⟩
abbrev main_call24_v6 : Ref sig .tc := ⟨.hbm, 845, rfl⟩
abbrev main_call24_v7 : Ref sig .tc := ⟨.hbm, 846, rfl⟩
abbrev main_call24_c_3 : Ref sig .tc := ⟨.hbm, 847, rfl⟩
abbrev main_call24_v8 : Ref sig .tc := ⟨.hbm, 848, rfl⟩
abbrev main_call24_v9 : Ref sig .tc := ⟨.hbm, 849, rfl⟩
abbrev main_call24_v10 : Ref sig .tc := ⟨.hbm, 850, rfl⟩
abbrev main_call24_v11 : Ref sig .tc := ⟨.hbm, 851, rfl⟩
abbrev main_call24_v12 : Ref sig .tc := ⟨.hbm, 852, rfl⟩
abbrev main_call24_v13 : Ref sig .tc := ⟨.hbm, 853, rfl⟩
abbrev main_v541 : Ref sig .tc := ⟨.hbm, 854, rfl⟩
abbrev main_v542 : Ref sig .tc := ⟨.hbm, 855, rfl⟩
abbrev main_v543 : Ref sig .tc := ⟨.hbm, 856, rfl⟩
abbrev main_v544 : Ref sig .tc := ⟨.hbm, 857, rfl⟩
abbrev main_c_112 : Ref sig .tc := ⟨.hbm, 858, rfl⟩
abbrev main_v545 : Ref sig .tc := ⟨.hbm, 859, rfl⟩
abbrev main_v546 : Ref sig .tc := ⟨.hbm, 860, rfl⟩
abbrev main_c_113 : Ref sig .tc := ⟨.hbm, 861, rfl⟩
abbrev main_v547 : Ref sig .tc := ⟨.hbm, 862, rfl⟩
abbrev main_v548 : Ref sig .tc := ⟨.hbm, 863, rfl⟩
abbrev main_v549 : Ref sig .tc := ⟨.hbm, 864, rfl⟩
abbrev main_v550 : Ref sig .tc := ⟨.hbm, 865, rfl⟩
abbrev main_v551 : Ref sig .tc := ⟨.hbm, 866, rfl⟩
abbrev main_v552 : Ref sig .tc := ⟨.hbm, 867, rfl⟩
abbrev main_c_114 : Ref sig .tc := ⟨.hbm, 868, rfl⟩
abbrev main_v553 : Ref sig .tc := ⟨.hbm, 869, rfl⟩
abbrev main_v554 : Ref sig .tc := ⟨.hbm, 870, rfl⟩
abbrev main_v555 : Ref sig .tc := ⟨.hbm, 871, rfl⟩
abbrev main_v556 : Ref sig .tc := ⟨.hbm, 872, rfl⟩
abbrev main_cst_115 : Ref sig .tc := ⟨.hbm, 873, rfl⟩
abbrev main_v557 : Ref sig .tc := ⟨.hbm, 874, rfl⟩
abbrev main_v558 : Ref sig .tc := ⟨.hbm, 875, rfl⟩
abbrev main_call25_v0 : Ref sig .tc := ⟨.hbm, 876, rfl⟩
abbrev main_call25_v1 : Ref sig .tc := ⟨.hbm, 877, rfl⟩
abbrev main_call25_v2 : Ref sig .tc := ⟨.hbm, 878, rfl⟩
abbrev main_v559 : Ref sig .tc := ⟨.hbm, 879, rfl⟩
abbrev main_v560 : Ref sig .tc := ⟨.hbm, 880, rfl⟩
abbrev main_v561 : Ref sig .tc := ⟨.hbm, 881, rfl⟩
abbrev main_v562 : Ref sig .tc := ⟨.hbm, 882, rfl⟩
abbrev main_v563 : Ref sig .tc := ⟨.hbm, 883, rfl⟩
abbrev main_v564 : Ref sig .tc := ⟨.hbm, 884, rfl⟩
abbrev main_v565 : Ref sig .tc := ⟨.hbm, 885, rfl⟩
abbrev main_v566 : Ref sig .tc := ⟨.hbm, 886, rfl⟩
abbrev main_v567 : Ref sig .tc := ⟨.hbm, 887, rfl⟩
abbrev main_v568 : Ref sig .tc := ⟨.hbm, 888, rfl⟩
abbrev main_v569 : Ref sig .tc := ⟨.hbm, 889, rfl⟩
abbrev main_v570 : Ref sig .tc := ⟨.hbm, 890, rfl⟩
abbrev main_cst_116 : Ref sig .tc := ⟨.hbm, 891, rfl⟩
abbrev main_v571 : Ref sig .tc := ⟨.hbm, 892, rfl⟩
abbrev main_cst_117 : Ref sig .tc := ⟨.hbm, 893, rfl⟩
abbrev main_v572 : Ref sig .tc := ⟨.hbm, 894, rfl⟩
abbrev main_v573 : Ref sig .tc := ⟨.hbm, 895, rfl⟩
abbrev main_v574 : Ref sig .tc := ⟨.hbm, 896, rfl⟩
abbrev main_v575 : Ref sig .tc := ⟨.hbm, 897, rfl⟩
abbrev main_c_118 : Ref sig .tc := ⟨.hbm, 898, rfl⟩
abbrev main_c_119 : Ref sig .tc := ⟨.hbm, 899, rfl⟩
abbrev main_call26_v0 : Ref sig .tc := ⟨.hbm, 900, rfl⟩
abbrev main_call26_v1 : Ref sig .tc := ⟨.hbm, 901, rfl⟩
abbrev main_call26_v2 : Ref sig .tc := ⟨.hbm, 902, rfl⟩
abbrev main_call26_v3 : Ref sig .tc := ⟨.hbm, 903, rfl⟩
abbrev main_call26_v4 : Ref sig .tc := ⟨.hbm, 904, rfl⟩
abbrev main_v576 : Ref sig .tc := ⟨.hbm, 905, rfl⟩
abbrev main_v577 : Ref sig .tc := ⟨.hbm, 906, rfl⟩
abbrev main_v578 : Ref sig .tc := ⟨.hbm, 907, rfl⟩
abbrev main_v579 : Ref sig .tc := ⟨.hbm, 908, rfl⟩
abbrev main_v580 : Ref sig .tc := ⟨.hbm, 909, rfl⟩
abbrev main_v581 : Ref sig .tc := ⟨.hbm, 910, rfl⟩
abbrev main_v582 : Ref sig .tc := ⟨.hbm, 911, rfl⟩
abbrev main_v583 : Ref sig .tc := ⟨.hbm, 912, rfl⟩
abbrev main_v584 : Ref sig .tc := ⟨.hbm, 913, rfl⟩
abbrev main_v585 : Ref sig .tc := ⟨.hbm, 914, rfl⟩
abbrev main_v586 : Ref sig .tc := ⟨.hbm, 915, rfl⟩
abbrev main_c_120 : Ref sig .tc := ⟨.hbm, 916, rfl⟩
abbrev main_v587 : Ref sig .tc := ⟨.hbm, 917, rfl⟩
abbrev main_v588 : Ref sig .tc := ⟨.hbm, 918, rfl⟩
abbrev main_v589 : Ref sig .tc := ⟨.hbm, 919, rfl⟩
abbrev main_v590 : Ref sig .tc := ⟨.hbm, 920, rfl⟩
abbrev main_c_121 : Ref sig .tc := ⟨.hbm, 921, rfl⟩
abbrev main_v591 : Ref sig .tc := ⟨.hbm, 922, rfl⟩
abbrev main_v592 : Ref sig .tc := ⟨.hbm, 923, rfl⟩
abbrev main_v593 : Ref sig .tc := ⟨.hbm, 924, rfl⟩
abbrev main_v594 : Ref sig .tc := ⟨.hbm, 925, rfl⟩
abbrev main_v595 : Ref sig .tc := ⟨.hbm, 926, rfl⟩
abbrev main_c_122 : Ref sig .tc := ⟨.hbm, 927, rfl⟩
abbrev main_v596 : Ref sig .tc := ⟨.hbm, 928, rfl⟩
abbrev main_v597 : Ref sig .tc := ⟨.hbm, 929, rfl⟩
abbrev main_v598 : Ref sig .tc := ⟨.hbm, 930, rfl⟩
abbrev main_c_123 : Ref sig .tc := ⟨.hbm, 931, rfl⟩
abbrev main_call27_c : Ref sig .tc := ⟨.hbm, 932, rfl⟩
abbrev main_call27_v0 : Ref sig .tc := ⟨.hbm, 933, rfl⟩
abbrev main_call27_c_0 : Ref sig .tc := ⟨.hbm, 934, rfl⟩
abbrev main_call27_v1 : Ref sig .tc := ⟨.hbm, 935, rfl⟩
abbrev main_call27_v2 : Ref sig .tc := ⟨.hbm, 936, rfl⟩
abbrev main_call27_v3 : Ref sig .tc := ⟨.hbm, 937, rfl⟩
abbrev main_call27_c_1 : Ref sig .tc := ⟨.hbm, 938, rfl⟩
abbrev main_call27_v4 : Ref sig .tc := ⟨.hbm, 939, rfl⟩
abbrev main_call27_v5 : Ref sig .tc := ⟨.hbm, 940, rfl⟩
abbrev main_call27_c_2 : Ref sig .tc := ⟨.hbm, 941, rfl⟩
abbrev main_call27_v6 : Ref sig .tc := ⟨.hbm, 942, rfl⟩
abbrev main_call27_v7 : Ref sig .tc := ⟨.hbm, 943, rfl⟩
abbrev main_call27_c_3 : Ref sig .tc := ⟨.hbm, 944, rfl⟩
abbrev main_call27_v8 : Ref sig .tc := ⟨.hbm, 945, rfl⟩
abbrev main_call27_v9 : Ref sig .tc := ⟨.hbm, 946, rfl⟩
abbrev main_call27_v10 : Ref sig .tc := ⟨.hbm, 947, rfl⟩
abbrev main_call27_v11 : Ref sig .tc := ⟨.hbm, 948, rfl⟩
abbrev main_call27_v12 : Ref sig .tc := ⟨.hbm, 949, rfl⟩
abbrev main_call27_v13 : Ref sig .tc := ⟨.hbm, 950, rfl⟩
abbrev main_v599 : Ref sig .tc := ⟨.hbm, 951, rfl⟩
abbrev main_v600 : Ref sig .tc := ⟨.hbm, 952, rfl⟩
abbrev main_v601 : Ref sig .tc := ⟨.hbm, 953, rfl⟩
abbrev main_v602 : Ref sig .tc := ⟨.hbm, 954, rfl⟩
abbrev main_c_124 : Ref sig .tc := ⟨.hbm, 955, rfl⟩
abbrev main_v603 : Ref sig .tc := ⟨.hbm, 956, rfl⟩
abbrev main_v604 : Ref sig .tc := ⟨.hbm, 957, rfl⟩
abbrev main_c_125 : Ref sig .tc := ⟨.hbm, 958, rfl⟩
abbrev main_v605 : Ref sig .tc := ⟨.hbm, 959, rfl⟩
abbrev main_v606 : Ref sig .tc := ⟨.hbm, 960, rfl⟩
abbrev main_v607 : Ref sig .tc := ⟨.hbm, 961, rfl⟩
abbrev main_v608 : Ref sig .tc := ⟨.hbm, 962, rfl⟩
abbrev main_v609 : Ref sig .tc := ⟨.hbm, 963, rfl⟩
abbrev main_v610 : Ref sig .tc := ⟨.hbm, 964, rfl⟩
abbrev main_c_126 : Ref sig .tc := ⟨.hbm, 965, rfl⟩
abbrev main_v611 : Ref sig .tc := ⟨.hbm, 966, rfl⟩
abbrev main_v612 : Ref sig .tc := ⟨.hbm, 967, rfl⟩
abbrev main_v613 : Ref sig .tc := ⟨.hbm, 968, rfl⟩
abbrev main_v614 : Ref sig .tc := ⟨.hbm, 969, rfl⟩
abbrev main_cst_127 : Ref sig .tc := ⟨.hbm, 970, rfl⟩
abbrev main_v615 : Ref sig .tc := ⟨.hbm, 971, rfl⟩
abbrev main_v616 : Ref sig .tc := ⟨.hbm, 972, rfl⟩
abbrev main_call28_v0 : Ref sig .tc := ⟨.hbm, 973, rfl⟩
abbrev main_call28_v1 : Ref sig .tc := ⟨.hbm, 974, rfl⟩
abbrev main_call28_v2 : Ref sig .tc := ⟨.hbm, 975, rfl⟩
abbrev main_v617 : Ref sig .tc := ⟨.hbm, 976, rfl⟩
abbrev main_v618 : Ref sig .tc := ⟨.hbm, 977, rfl⟩
abbrev main_v619 : Ref sig .tc := ⟨.hbm, 978, rfl⟩
abbrev main_v620 : Ref sig .tc := ⟨.hbm, 979, rfl⟩
abbrev main_v621 : Ref sig .tc := ⟨.hbm, 980, rfl⟩
abbrev main_v622 : Ref sig .tc := ⟨.hbm, 981, rfl⟩
abbrev main_v623 : Ref sig .tc := ⟨.hbm, 982, rfl⟩
abbrev main_v624 : Ref sig .tc := ⟨.hbm, 983, rfl⟩
abbrev main_v625 : Ref sig .tc := ⟨.hbm, 984, rfl⟩
abbrev main_v626 : Ref sig .tc := ⟨.hbm, 985, rfl⟩
abbrev main_v627 : Ref sig .tc := ⟨.hbm, 986, rfl⟩
abbrev main_v628 : Ref sig .tc := ⟨.hbm, 987, rfl⟩
abbrev main_cst_128 : Ref sig .tc := ⟨.hbm, 988, rfl⟩
abbrev main_v629 : Ref sig .tc := ⟨.hbm, 989, rfl⟩
abbrev main_cst_129 : Ref sig .tc := ⟨.hbm, 990, rfl⟩
abbrev main_v630 : Ref sig .tc := ⟨.hbm, 991, rfl⟩
abbrev main_v631 : Ref sig .tc := ⟨.hbm, 992, rfl⟩
abbrev main_v632 : Ref sig .tc := ⟨.hbm, 993, rfl⟩
abbrev main_v633 : Ref sig .tc := ⟨.hbm, 994, rfl⟩
abbrev main_c_130 : Ref sig .tc := ⟨.hbm, 995, rfl⟩
abbrev main_c_131 : Ref sig .tc := ⟨.hbm, 996, rfl⟩
abbrev main_call29_v0 : Ref sig .tc := ⟨.hbm, 997, rfl⟩
abbrev main_call29_v1 : Ref sig .tc := ⟨.hbm, 998, rfl⟩
abbrev main_call29_v2 : Ref sig .tc := ⟨.hbm, 999, rfl⟩
abbrev main_call29_v3 : Ref sig .tc := ⟨.hbm, 1000, rfl⟩
abbrev main_call29_v4 : Ref sig .tc := ⟨.hbm, 1001, rfl⟩
abbrev main_v634 : Ref sig .tc := ⟨.hbm, 1002, rfl⟩
abbrev main_v635 : Ref sig .tc := ⟨.hbm, 1003, rfl⟩
abbrev main_v636 : Ref sig .tc := ⟨.hbm, 1004, rfl⟩
abbrev main_v637 : Ref sig .tc := ⟨.hbm, 1005, rfl⟩
abbrev main_v638 : Ref sig .tc := ⟨.hbm, 1006, rfl⟩
abbrev main_v639 : Ref sig .tc := ⟨.hbm, 1007, rfl⟩
abbrev main_v640 : Ref sig .tc := ⟨.hbm, 1008, rfl⟩
abbrev main_v641 : Ref sig .tc := ⟨.hbm, 1009, rfl⟩
abbrev main_v642 : Ref sig .tc := ⟨.hbm, 1010, rfl⟩
abbrev main_v643 : Ref sig .tc := ⟨.hbm, 1011, rfl⟩
abbrev main_v644 : Ref sig .tc := ⟨.hbm, 1012, rfl⟩
abbrev main_c_132 : Ref sig .tc := ⟨.hbm, 1013, rfl⟩
abbrev main_v645 : Ref sig .tc := ⟨.hbm, 1014, rfl⟩
abbrev main_v646 : Ref sig .tc := ⟨.hbm, 1015, rfl⟩
abbrev main_v647 : Ref sig .tc := ⟨.hbm, 1016, rfl⟩
abbrev main_v648 : Ref sig .tc := ⟨.hbm, 1017, rfl⟩
abbrev main_c_133 : Ref sig .tc := ⟨.hbm, 1018, rfl⟩
abbrev main_v649 : Ref sig .tc := ⟨.hbm, 1019, rfl⟩
abbrev main_v650 : Ref sig .tc := ⟨.hbm, 1020, rfl⟩
abbrev main_v651 : Ref sig .tc := ⟨.hbm, 1021, rfl⟩
abbrev main_v652 : Ref sig .tc := ⟨.hbm, 1022, rfl⟩
abbrev main_v653 : Ref sig .tc := ⟨.hbm, 1023, rfl⟩
abbrev main_c_134 : Ref sig .tc := ⟨.hbm, 1024, rfl⟩
abbrev main_v654 : Ref sig .tc := ⟨.hbm, 1025, rfl⟩
abbrev main_v655 : Ref sig .tc := ⟨.hbm, 1026, rfl⟩
abbrev main_v656 : Ref sig .tc := ⟨.hbm, 1027, rfl⟩
abbrev main_c_135 : Ref sig .tc := ⟨.hbm, 1028, rfl⟩
abbrev main_call30_c : Ref sig .tc := ⟨.hbm, 1029, rfl⟩
abbrev main_call30_v0 : Ref sig .tc := ⟨.hbm, 1030, rfl⟩
abbrev main_call30_c_0 : Ref sig .tc := ⟨.hbm, 1031, rfl⟩
abbrev main_call30_v1 : Ref sig .tc := ⟨.hbm, 1032, rfl⟩
abbrev main_call30_v2 : Ref sig .tc := ⟨.hbm, 1033, rfl⟩
abbrev main_call30_v3 : Ref sig .tc := ⟨.hbm, 1034, rfl⟩
abbrev main_call30_c_1 : Ref sig .tc := ⟨.hbm, 1035, rfl⟩
abbrev main_call30_v4 : Ref sig .tc := ⟨.hbm, 1036, rfl⟩
abbrev main_call30_v5 : Ref sig .tc := ⟨.hbm, 1037, rfl⟩
abbrev main_call30_c_2 : Ref sig .tc := ⟨.hbm, 1038, rfl⟩
abbrev main_call30_v6 : Ref sig .tc := ⟨.hbm, 1039, rfl⟩
abbrev main_call30_v7 : Ref sig .tc := ⟨.hbm, 1040, rfl⟩
abbrev main_call30_c_3 : Ref sig .tc := ⟨.hbm, 1041, rfl⟩
abbrev main_call30_v8 : Ref sig .tc := ⟨.hbm, 1042, rfl⟩
abbrev main_call30_v9 : Ref sig .tc := ⟨.hbm, 1043, rfl⟩
abbrev main_call30_v10 : Ref sig .tc := ⟨.hbm, 1044, rfl⟩
abbrev main_call30_v11 : Ref sig .tc := ⟨.hbm, 1045, rfl⟩
abbrev main_call30_v12 : Ref sig .tc := ⟨.hbm, 1046, rfl⟩
abbrev main_call30_v13 : Ref sig .tc := ⟨.hbm, 1047, rfl⟩
abbrev main_v657 : Ref sig .tc := ⟨.hbm, 1048, rfl⟩
abbrev main_v658 : Ref sig .tc := ⟨.hbm, 1049, rfl⟩
abbrev main_v659 : Ref sig .tc := ⟨.hbm, 1050, rfl⟩
abbrev main_v660 : Ref sig .tc := ⟨.hbm, 1051, rfl⟩
abbrev main_c_136 : Ref sig .tc := ⟨.hbm, 1052, rfl⟩
abbrev main_v661 : Ref sig .tc := ⟨.hbm, 1053, rfl⟩
abbrev main_v662 : Ref sig .tc := ⟨.hbm, 1054, rfl⟩
abbrev main_c_137 : Ref sig .tc := ⟨.hbm, 1055, rfl⟩
abbrev main_v663 : Ref sig .tc := ⟨.hbm, 1056, rfl⟩
abbrev main_v664 : Ref sig .tc := ⟨.hbm, 1057, rfl⟩
abbrev main_v665 : Ref sig .tc := ⟨.hbm, 1058, rfl⟩
abbrev main_v666 : Ref sig .tc := ⟨.hbm, 1059, rfl⟩
abbrev main_v667 : Ref sig .tc := ⟨.hbm, 1060, rfl⟩
abbrev main_v668 : Ref sig .tc := ⟨.hbm, 1061, rfl⟩
abbrev main_c_138 : Ref sig .tc := ⟨.hbm, 1062, rfl⟩
abbrev main_v669 : Ref sig .tc := ⟨.hbm, 1063, rfl⟩
abbrev main_v670 : Ref sig .tc := ⟨.hbm, 1064, rfl⟩
abbrev main_v671 : Ref sig .tc := ⟨.hbm, 1065, rfl⟩
abbrev main_v672 : Ref sig .tc := ⟨.hbm, 1066, rfl⟩
abbrev main_cst_139 : Ref sig .tc := ⟨.hbm, 1067, rfl⟩
abbrev main_v673 : Ref sig .tc := ⟨.hbm, 1068, rfl⟩
abbrev main_v674 : Ref sig .tc := ⟨.hbm, 1069, rfl⟩
abbrev main_call31_v0 : Ref sig .tc := ⟨.hbm, 1070, rfl⟩
abbrev main_call31_v1 : Ref sig .tc := ⟨.hbm, 1071, rfl⟩
abbrev main_call31_v2 : Ref sig .tc := ⟨.hbm, 1072, rfl⟩
abbrev main_v675 : Ref sig .tc := ⟨.hbm, 1073, rfl⟩
abbrev main_v676 : Ref sig .tc := ⟨.hbm, 1074, rfl⟩
abbrev main_v677 : Ref sig .tc := ⟨.hbm, 1075, rfl⟩
abbrev main_v678 : Ref sig .tc := ⟨.hbm, 1076, rfl⟩
abbrev main_v679 : Ref sig .tc := ⟨.hbm, 1077, rfl⟩
abbrev main_v680 : Ref sig .tc := ⟨.hbm, 1078, rfl⟩
abbrev main_v681 : Ref sig .tc := ⟨.hbm, 1079, rfl⟩
abbrev main_v682 : Ref sig .tc := ⟨.hbm, 1080, rfl⟩
abbrev main_v683 : Ref sig .tc := ⟨.hbm, 1081, rfl⟩
abbrev main_v684 : Ref sig .tc := ⟨.hbm, 1082, rfl⟩
abbrev main_v685 : Ref sig .tc := ⟨.hbm, 1083, rfl⟩
abbrev main_v686 : Ref sig .tc := ⟨.hbm, 1084, rfl⟩
abbrev main_cst_140 : Ref sig .tc := ⟨.hbm, 1085, rfl⟩
abbrev main_v687 : Ref sig .tc := ⟨.hbm, 1086, rfl⟩
abbrev main_cst_141 : Ref sig .tc := ⟨.hbm, 1087, rfl⟩
abbrev main_v688 : Ref sig .tc := ⟨.hbm, 1088, rfl⟩
abbrev main_v689 : Ref sig .tc := ⟨.hbm, 1089, rfl⟩
abbrev main_v690 : Ref sig .tc := ⟨.hbm, 1090, rfl⟩
abbrev main_v691 : Ref sig .tc := ⟨.hbm, 1091, rfl⟩
abbrev main_c_142 : Ref sig .tc := ⟨.hbm, 1092, rfl⟩
abbrev main_c_143 : Ref sig .tc := ⟨.hbm, 1093, rfl⟩
abbrev main_call32_v0 : Ref sig .tc := ⟨.hbm, 1094, rfl⟩
abbrev main_call32_v1 : Ref sig .tc := ⟨.hbm, 1095, rfl⟩
abbrev main_call32_v2 : Ref sig .tc := ⟨.hbm, 1096, rfl⟩
abbrev main_call32_v3 : Ref sig .tc := ⟨.hbm, 1097, rfl⟩
abbrev main_call32_v4 : Ref sig .tc := ⟨.hbm, 1098, rfl⟩
abbrev main_v692 : Ref sig .tc := ⟨.hbm, 1099, rfl⟩
abbrev main_v693 : Ref sig .tc := ⟨.hbm, 1100, rfl⟩
abbrev main_v694 : Ref sig .tc := ⟨.hbm, 1101, rfl⟩
abbrev main_v695 : Ref sig .tc := ⟨.hbm, 1102, rfl⟩
abbrev main_v696 : Ref sig .tc := ⟨.hbm, 1103, rfl⟩
abbrev main_v697 : Ref sig .tc := ⟨.hbm, 1104, rfl⟩
abbrev main_v698 : Ref sig .tc := ⟨.hbm, 1105, rfl⟩
abbrev main_v699 : Ref sig .tc := ⟨.hbm, 1106, rfl⟩
abbrev main_v700 : Ref sig .tc := ⟨.hbm, 1107, rfl⟩
abbrev main_v701 : Ref sig .tc := ⟨.hbm, 1108, rfl⟩
abbrev main_v702 : Ref sig .tc := ⟨.hbm, 1109, rfl⟩
abbrev main_c_144 : Ref sig .tc := ⟨.hbm, 1110, rfl⟩
abbrev main_v703 : Ref sig .tc := ⟨.hbm, 1111, rfl⟩
abbrev main_v704 : Ref sig .tc := ⟨.hbm, 1112, rfl⟩
abbrev main_v705 : Ref sig .tc := ⟨.hbm, 1113, rfl⟩
abbrev main_v706 : Ref sig .tc := ⟨.hbm, 1114, rfl⟩
abbrev main_c_145 : Ref sig .tc := ⟨.hbm, 1115, rfl⟩
abbrev main_v707 : Ref sig .tc := ⟨.hbm, 1116, rfl⟩
abbrev main_v708 : Ref sig .tc := ⟨.hbm, 1117, rfl⟩
abbrev main_v709 : Ref sig .tc := ⟨.hbm, 1118, rfl⟩
abbrev main_v710 : Ref sig .tc := ⟨.hbm, 1119, rfl⟩
abbrev main_v711 : Ref sig .tc := ⟨.hbm, 1120, rfl⟩
abbrev main_c_146 : Ref sig .tc := ⟨.hbm, 1121, rfl⟩
abbrev main_v712 : Ref sig .tc := ⟨.hbm, 1122, rfl⟩
abbrev main_v713 : Ref sig .tc := ⟨.hbm, 1123, rfl⟩
abbrev main_v714 : Ref sig .tc := ⟨.hbm, 1124, rfl⟩
abbrev main_c_147 : Ref sig .tc := ⟨.hbm, 1125, rfl⟩
abbrev main_call33_c : Ref sig .tc := ⟨.hbm, 1126, rfl⟩
abbrev main_call33_v0 : Ref sig .tc := ⟨.hbm, 1127, rfl⟩
abbrev main_call33_c_0 : Ref sig .tc := ⟨.hbm, 1128, rfl⟩
abbrev main_call33_v1 : Ref sig .tc := ⟨.hbm, 1129, rfl⟩
abbrev main_call33_v2 : Ref sig .tc := ⟨.hbm, 1130, rfl⟩
abbrev main_call33_v3 : Ref sig .tc := ⟨.hbm, 1131, rfl⟩
abbrev main_call33_c_1 : Ref sig .tc := ⟨.hbm, 1132, rfl⟩
abbrev main_call33_v4 : Ref sig .tc := ⟨.hbm, 1133, rfl⟩
abbrev main_call33_v5 : Ref sig .tc := ⟨.hbm, 1134, rfl⟩
abbrev main_call33_c_2 : Ref sig .tc := ⟨.hbm, 1135, rfl⟩
abbrev main_call33_v6 : Ref sig .tc := ⟨.hbm, 1136, rfl⟩
abbrev main_call33_v7 : Ref sig .tc := ⟨.hbm, 1137, rfl⟩
abbrev main_call33_c_3 : Ref sig .tc := ⟨.hbm, 1138, rfl⟩
abbrev main_call33_v8 : Ref sig .tc := ⟨.hbm, 1139, rfl⟩
abbrev main_call33_v9 : Ref sig .tc := ⟨.hbm, 1140, rfl⟩
abbrev main_call33_v10 : Ref sig .tc := ⟨.hbm, 1141, rfl⟩
abbrev main_call33_v11 : Ref sig .tc := ⟨.hbm, 1142, rfl⟩
abbrev main_call33_v12 : Ref sig .tc := ⟨.hbm, 1143, rfl⟩
abbrev main_call33_v13 : Ref sig .tc := ⟨.hbm, 1144, rfl⟩
abbrev main_v715 : Ref sig .tc := ⟨.hbm, 1145, rfl⟩
abbrev main_v716 : Ref sig .tc := ⟨.hbm, 1146, rfl⟩
abbrev main_v717 : Ref sig .tc := ⟨.hbm, 1147, rfl⟩
abbrev main_v718 : Ref sig .tc := ⟨.hbm, 1148, rfl⟩
abbrev main_c_148 : Ref sig .tc := ⟨.hbm, 1149, rfl⟩
abbrev main_v719 : Ref sig .tc := ⟨.hbm, 1150, rfl⟩
abbrev main_v720 : Ref sig .tc := ⟨.hbm, 1151, rfl⟩
abbrev main_c_149 : Ref sig .tc := ⟨.hbm, 1152, rfl⟩
abbrev main_v721 : Ref sig .tc := ⟨.hbm, 1153, rfl⟩
abbrev main_v722 : Ref sig .tc := ⟨.hbm, 1154, rfl⟩
abbrev main_v723 : Ref sig .tc := ⟨.hbm, 1155, rfl⟩
abbrev main_v724 : Ref sig .tc := ⟨.hbm, 1156, rfl⟩
abbrev main_v725 : Ref sig .tc := ⟨.hbm, 1157, rfl⟩
abbrev main_v726 : Ref sig .tc := ⟨.hbm, 1158, rfl⟩
abbrev main_c_150 : Ref sig .tc := ⟨.hbm, 1159, rfl⟩
abbrev main_v727 : Ref sig .tc := ⟨.hbm, 1160, rfl⟩
abbrev main_v728 : Ref sig .tc := ⟨.hbm, 1161, rfl⟩
abbrev main_v729 : Ref sig .tc := ⟨.hbm, 1162, rfl⟩
abbrev main_v730 : Ref sig .tc := ⟨.hbm, 1163, rfl⟩
abbrev main_cst_151 : Ref sig .tc := ⟨.hbm, 1164, rfl⟩
abbrev main_v731 : Ref sig .tc := ⟨.hbm, 1165, rfl⟩
abbrev main_v732 : Ref sig .tc := ⟨.hbm, 1166, rfl⟩
abbrev main_call34_v0 : Ref sig .tc := ⟨.hbm, 1167, rfl⟩
abbrev main_call34_v1 : Ref sig .tc := ⟨.hbm, 1168, rfl⟩
abbrev main_call34_v2 : Ref sig .tc := ⟨.hbm, 1169, rfl⟩
abbrev main_v733 : Ref sig .tc := ⟨.hbm, 1170, rfl⟩
abbrev main_v734 : Ref sig .tc := ⟨.hbm, 1171, rfl⟩
abbrev main_v735 : Ref sig .tc := ⟨.hbm, 1172, rfl⟩
abbrev main_v736 : Ref sig .tc := ⟨.hbm, 1173, rfl⟩
abbrev main_v737 : Ref sig .tc := ⟨.hbm, 1174, rfl⟩
abbrev main_v738 : Ref sig .tc := ⟨.hbm, 1175, rfl⟩
abbrev main_v739 : Ref sig .tc := ⟨.hbm, 1176, rfl⟩
abbrev main_v740 : Ref sig .tc := ⟨.hbm, 1177, rfl⟩
abbrev main_v741 : Ref sig .tc := ⟨.hbm, 1178, rfl⟩
abbrev main_v742 : Ref sig .tc := ⟨.hbm, 1179, rfl⟩
abbrev main_v743 : Ref sig .tc := ⟨.hbm, 1180, rfl⟩
abbrev main_v744 : Ref sig .tc := ⟨.hbm, 1181, rfl⟩
abbrev main_cst_152 : Ref sig .tc := ⟨.hbm, 1182, rfl⟩
abbrev main_v745 : Ref sig .tc := ⟨.hbm, 1183, rfl⟩
abbrev main_cst_153 : Ref sig .tc := ⟨.hbm, 1184, rfl⟩
abbrev main_v746 : Ref sig .tc := ⟨.hbm, 1185, rfl⟩
abbrev main_v747 : Ref sig .tc := ⟨.hbm, 1186, rfl⟩
abbrev main_v748 : Ref sig .tc := ⟨.hbm, 1187, rfl⟩
abbrev main_v749 : Ref sig .tc := ⟨.hbm, 1188, rfl⟩
abbrev main_c_154 : Ref sig .tc := ⟨.hbm, 1189, rfl⟩
abbrev main_c_155 : Ref sig .tc := ⟨.hbm, 1190, rfl⟩
abbrev main_call35_v0 : Ref sig .tc := ⟨.hbm, 1191, rfl⟩
abbrev main_call35_v1 : Ref sig .tc := ⟨.hbm, 1192, rfl⟩
abbrev main_call35_v2 : Ref sig .tc := ⟨.hbm, 1193, rfl⟩
abbrev main_call35_v3 : Ref sig .tc := ⟨.hbm, 1194, rfl⟩
abbrev main_call35_v4 : Ref sig .tc := ⟨.hbm, 1195, rfl⟩
abbrev main_v750 : Ref sig .tc := ⟨.hbm, 1196, rfl⟩
abbrev main_v751 : Ref sig .tc := ⟨.hbm, 1197, rfl⟩
abbrev main_v752 : Ref sig .tc := ⟨.hbm, 1198, rfl⟩
abbrev main_v753 : Ref sig .tc := ⟨.hbm, 1199, rfl⟩
abbrev main_v754 : Ref sig .tc := ⟨.hbm, 1200, rfl⟩
abbrev main_v755 : Ref sig .tc := ⟨.hbm, 1201, rfl⟩
abbrev main_v756 : Ref sig .tc := ⟨.hbm, 1202, rfl⟩
abbrev main_v757 : Ref sig .tc := ⟨.hbm, 1203, rfl⟩
abbrev main_v758 : Ref sig .tc := ⟨.hbm, 1204, rfl⟩
abbrev main_v759 : Ref sig .tc := ⟨.hbm, 1205, rfl⟩
abbrev main_v760 : Ref sig .tc := ⟨.hbm, 1206, rfl⟩
abbrev main_c_156 : Ref sig .tc := ⟨.hbm, 1207, rfl⟩
abbrev main_v761 : Ref sig .tc := ⟨.hbm, 1208, rfl⟩
abbrev main_v762 : Ref sig .tc := ⟨.hbm, 1209, rfl⟩
abbrev main_v763 : Ref sig .tc := ⟨.hbm, 1210, rfl⟩
abbrev main_v764 : Ref sig .tc := ⟨.hbm, 1211, rfl⟩
abbrev main_c_157 : Ref sig .tc := ⟨.hbm, 1212, rfl⟩
abbrev main_v765 : Ref sig .tc := ⟨.hbm, 1213, rfl⟩
abbrev main_v766 : Ref sig .tc := ⟨.hbm, 1214, rfl⟩
abbrev main_v767 : Ref sig .tc := ⟨.hbm, 1215, rfl⟩
abbrev main_v768 : Ref sig .tc := ⟨.hbm, 1216, rfl⟩
abbrev main_v769 : Ref sig .tc := ⟨.hbm, 1217, rfl⟩
abbrev main_c_158 : Ref sig .tc := ⟨.hbm, 1218, rfl⟩
abbrev main_v770 : Ref sig .tc := ⟨.hbm, 1219, rfl⟩
abbrev main_v771 : Ref sig .tc := ⟨.hbm, 1220, rfl⟩
abbrev main_v772 : Ref sig .tc := ⟨.hbm, 1221, rfl⟩
abbrev main_c_159 : Ref sig .tc := ⟨.hbm, 1222, rfl⟩
abbrev main_call36_c : Ref sig .tc := ⟨.hbm, 1223, rfl⟩
abbrev main_call36_v0 : Ref sig .tc := ⟨.hbm, 1224, rfl⟩
abbrev main_call36_c_0 : Ref sig .tc := ⟨.hbm, 1225, rfl⟩
abbrev main_call36_v1 : Ref sig .tc := ⟨.hbm, 1226, rfl⟩
abbrev main_call36_v2 : Ref sig .tc := ⟨.hbm, 1227, rfl⟩
abbrev main_call36_v3 : Ref sig .tc := ⟨.hbm, 1228, rfl⟩
abbrev main_call36_c_1 : Ref sig .tc := ⟨.hbm, 1229, rfl⟩
abbrev main_call36_v4 : Ref sig .tc := ⟨.hbm, 1230, rfl⟩
abbrev main_call36_v5 : Ref sig .tc := ⟨.hbm, 1231, rfl⟩
abbrev main_call36_c_2 : Ref sig .tc := ⟨.hbm, 1232, rfl⟩
abbrev main_call36_v6 : Ref sig .tc := ⟨.hbm, 1233, rfl⟩
abbrev main_call36_v7 : Ref sig .tc := ⟨.hbm, 1234, rfl⟩
abbrev main_call36_c_3 : Ref sig .tc := ⟨.hbm, 1235, rfl⟩
abbrev main_call36_v8 : Ref sig .tc := ⟨.hbm, 1236, rfl⟩
abbrev main_call36_v9 : Ref sig .tc := ⟨.hbm, 1237, rfl⟩
abbrev main_call36_v10 : Ref sig .tc := ⟨.hbm, 1238, rfl⟩
abbrev main_call36_v11 : Ref sig .tc := ⟨.hbm, 1239, rfl⟩
abbrev main_call36_v12 : Ref sig .tc := ⟨.hbm, 1240, rfl⟩
abbrev main_call36_v13 : Ref sig .tc := ⟨.hbm, 1241, rfl⟩
abbrev main_v773 : Ref sig .tc := ⟨.hbm, 1242, rfl⟩
abbrev main_v774 : Ref sig .tc := ⟨.hbm, 1243, rfl⟩
abbrev main_v775 : Ref sig .tc := ⟨.hbm, 1244, rfl⟩
abbrev main_v776 : Ref sig .tc := ⟨.hbm, 1245, rfl⟩
abbrev main_c_160 : Ref sig .tc := ⟨.hbm, 1246, rfl⟩
abbrev main_v777 : Ref sig .tc := ⟨.hbm, 1247, rfl⟩
abbrev main_v778 : Ref sig .tc := ⟨.hbm, 1248, rfl⟩
abbrev main_c_161 : Ref sig .tc := ⟨.hbm, 1249, rfl⟩
abbrev main_v779 : Ref sig .tc := ⟨.hbm, 1250, rfl⟩
abbrev main_v780 : Ref sig .tc := ⟨.hbm, 1251, rfl⟩
abbrev main_v781 : Ref sig .tc := ⟨.hbm, 1252, rfl⟩
abbrev main_v782 : Ref sig .tc := ⟨.hbm, 1253, rfl⟩
abbrev main_v783 : Ref sig .tc := ⟨.hbm, 1254, rfl⟩
abbrev main_v784 : Ref sig .tc := ⟨.hbm, 1255, rfl⟩
abbrev main_c_162 : Ref sig .tc := ⟨.hbm, 1256, rfl⟩
abbrev main_v785 : Ref sig .tc := ⟨.hbm, 1257, rfl⟩
abbrev main_v786 : Ref sig .tc := ⟨.hbm, 1258, rfl⟩
abbrev main_v787 : Ref sig .tc := ⟨.hbm, 1259, rfl⟩
abbrev main_v788 : Ref sig .tc := ⟨.hbm, 1260, rfl⟩
abbrev main_cst_163 : Ref sig .tc := ⟨.hbm, 1261, rfl⟩
abbrev main_v789 : Ref sig .tc := ⟨.hbm, 1262, rfl⟩
abbrev main_v790 : Ref sig .tc := ⟨.hbm, 1263, rfl⟩
abbrev main_call37_v0 : Ref sig .tc := ⟨.hbm, 1264, rfl⟩
abbrev main_call37_v1 : Ref sig .tc := ⟨.hbm, 1265, rfl⟩
abbrev main_call37_v2 : Ref sig .tc := ⟨.hbm, 1266, rfl⟩
abbrev main_v791 : Ref sig .tc := ⟨.hbm, 1267, rfl⟩
abbrev main_v792 : Ref sig .tc := ⟨.hbm, 1268, rfl⟩
abbrev main_v793 : Ref sig .tc := ⟨.hbm, 1269, rfl⟩
abbrev main_v794 : Ref sig .tc := ⟨.hbm, 1270, rfl⟩
abbrev main_v795 : Ref sig .tc := ⟨.hbm, 1271, rfl⟩
abbrev main_v796 : Ref sig .tc := ⟨.hbm, 1272, rfl⟩
abbrev main_v797 : Ref sig .tc := ⟨.hbm, 1273, rfl⟩
abbrev main_v798 : Ref sig .tc := ⟨.hbm, 1274, rfl⟩
abbrev main_v799 : Ref sig .tc := ⟨.hbm, 1275, rfl⟩
abbrev main_v800 : Ref sig .tc := ⟨.hbm, 1276, rfl⟩
abbrev main_v801 : Ref sig .tc := ⟨.hbm, 1277, rfl⟩
abbrev main_v802 : Ref sig .tc := ⟨.hbm, 1278, rfl⟩
abbrev main_cst_164 : Ref sig .tc := ⟨.hbm, 1279, rfl⟩
abbrev main_v803 : Ref sig .tc := ⟨.hbm, 1280, rfl⟩
abbrev main_cst_165 : Ref sig .tc := ⟨.hbm, 1281, rfl⟩
abbrev main_v804 : Ref sig .tc := ⟨.hbm, 1282, rfl⟩
abbrev main_v805 : Ref sig .tc := ⟨.hbm, 1283, rfl⟩
abbrev main_v806 : Ref sig .tc := ⟨.hbm, 1284, rfl⟩
abbrev main_v807 : Ref sig .tc := ⟨.hbm, 1285, rfl⟩
abbrev main_c_166 : Ref sig .tc := ⟨.hbm, 1286, rfl⟩
abbrev main_c_167 : Ref sig .tc := ⟨.hbm, 1287, rfl⟩
abbrev main_call38_v0 : Ref sig .tc := ⟨.hbm, 1288, rfl⟩
abbrev main_call38_v1 : Ref sig .tc := ⟨.hbm, 1289, rfl⟩
abbrev main_call38_v2 : Ref sig .tc := ⟨.hbm, 1290, rfl⟩
abbrev main_call38_v3 : Ref sig .tc := ⟨.hbm, 1291, rfl⟩
abbrev main_call38_v4 : Ref sig .tc := ⟨.hbm, 1292, rfl⟩
abbrev main_v808 : Ref sig .tc := ⟨.hbm, 1293, rfl⟩
abbrev main_v809 : Ref sig .tc := ⟨.hbm, 1294, rfl⟩
abbrev main_v810 : Ref sig .tc := ⟨.hbm, 1295, rfl⟩
abbrev main_v811 : Ref sig .tc := ⟨.hbm, 1296, rfl⟩
abbrev main_v812 : Ref sig .tc := ⟨.hbm, 1297, rfl⟩
abbrev main_v813 : Ref sig .tc := ⟨.hbm, 1298, rfl⟩
abbrev main_v814 : Ref sig .tc := ⟨.hbm, 1299, rfl⟩
abbrev main_v815 : Ref sig .tc := ⟨.hbm, 1300, rfl⟩
abbrev main_v816 : Ref sig .tc := ⟨.hbm, 1301, rfl⟩
abbrev main_v817 : Ref sig .tc := ⟨.hbm, 1302, rfl⟩
abbrev main_v818 : Ref sig .tc := ⟨.hbm, 1303, rfl⟩
abbrev main_c_168 : Ref sig .tc := ⟨.hbm, 1304, rfl⟩
abbrev main_v819 : Ref sig .tc := ⟨.hbm, 1305, rfl⟩
abbrev main_v820 : Ref sig .tc := ⟨.hbm, 1306, rfl⟩
abbrev main_v821 : Ref sig .tc := ⟨.hbm, 1307, rfl⟩
abbrev main_v822 : Ref sig .tc := ⟨.hbm, 1308, rfl⟩
abbrev main_c_169 : Ref sig .tc := ⟨.hbm, 1309, rfl⟩
abbrev main_v823 : Ref sig .tc := ⟨.hbm, 1310, rfl⟩
abbrev main_v824 : Ref sig .tc := ⟨.hbm, 1311, rfl⟩
abbrev main_v825 : Ref sig .tc := ⟨.hbm, 1312, rfl⟩
abbrev main_v826 : Ref sig .tc := ⟨.hbm, 1313, rfl⟩
abbrev main_v827 : Ref sig .tc := ⟨.hbm, 1314, rfl⟩
abbrev main_c_170 : Ref sig .tc := ⟨.hbm, 1315, rfl⟩
abbrev main_v828 : Ref sig .tc := ⟨.hbm, 1316, rfl⟩
abbrev main_v829 : Ref sig .tc := ⟨.hbm, 1317, rfl⟩
abbrev main_v830 : Ref sig .tc := ⟨.hbm, 1318, rfl⟩
abbrev main_c_171 : Ref sig .tc := ⟨.hbm, 1319, rfl⟩
abbrev main_call39_c : Ref sig .tc := ⟨.hbm, 1320, rfl⟩
abbrev main_call39_v0 : Ref sig .tc := ⟨.hbm, 1321, rfl⟩
abbrev main_call39_c_0 : Ref sig .tc := ⟨.hbm, 1322, rfl⟩
abbrev main_call39_v1 : Ref sig .tc := ⟨.hbm, 1323, rfl⟩
abbrev main_call39_v2 : Ref sig .tc := ⟨.hbm, 1324, rfl⟩
abbrev main_call39_v3 : Ref sig .tc := ⟨.hbm, 1325, rfl⟩
abbrev main_call39_c_1 : Ref sig .tc := ⟨.hbm, 1326, rfl⟩
abbrev main_call39_v4 : Ref sig .tc := ⟨.hbm, 1327, rfl⟩
abbrev main_call39_v5 : Ref sig .tc := ⟨.hbm, 1328, rfl⟩
abbrev main_call39_c_2 : Ref sig .tc := ⟨.hbm, 1329, rfl⟩
abbrev main_call39_v6 : Ref sig .tc := ⟨.hbm, 1330, rfl⟩
abbrev main_call39_v7 : Ref sig .tc := ⟨.hbm, 1331, rfl⟩
abbrev main_call39_c_3 : Ref sig .tc := ⟨.hbm, 1332, rfl⟩
abbrev main_call39_v8 : Ref sig .tc := ⟨.hbm, 1333, rfl⟩
abbrev main_call39_v9 : Ref sig .tc := ⟨.hbm, 1334, rfl⟩
abbrev main_call39_v10 : Ref sig .tc := ⟨.hbm, 1335, rfl⟩
abbrev main_call39_v11 : Ref sig .tc := ⟨.hbm, 1336, rfl⟩
abbrev main_call39_v12 : Ref sig .tc := ⟨.hbm, 1337, rfl⟩
abbrev main_call39_v13 : Ref sig .tc := ⟨.hbm, 1338, rfl⟩
abbrev main_v831 : Ref sig .tc := ⟨.hbm, 1339, rfl⟩
abbrev main_v832 : Ref sig .tc := ⟨.hbm, 1340, rfl⟩
abbrev main_v833 : Ref sig .tc := ⟨.hbm, 1341, rfl⟩
abbrev main_v834 : Ref sig .tc := ⟨.hbm, 1342, rfl⟩
abbrev main_c_172 : Ref sig .tc := ⟨.hbm, 1343, rfl⟩
abbrev main_v835 : Ref sig .tc := ⟨.hbm, 1344, rfl⟩
abbrev main_v836 : Ref sig .tc := ⟨.hbm, 1345, rfl⟩
abbrev main_c_173 : Ref sig .tc := ⟨.hbm, 1346, rfl⟩
abbrev main_v837 : Ref sig .tc := ⟨.hbm, 1347, rfl⟩
abbrev main_v838 : Ref sig .tc := ⟨.hbm, 1348, rfl⟩
abbrev main_v839 : Ref sig .tc := ⟨.hbm, 1349, rfl⟩
abbrev main_v840 : Ref sig .tc := ⟨.hbm, 1350, rfl⟩
abbrev main_v841 : Ref sig .tc := ⟨.hbm, 1351, rfl⟩
abbrev main_v842 : Ref sig .tc := ⟨.hbm, 1352, rfl⟩
abbrev main_c_174 : Ref sig .tc := ⟨.hbm, 1353, rfl⟩
abbrev main_v843 : Ref sig .tc := ⟨.hbm, 1354, rfl⟩
abbrev main_v844 : Ref sig .tc := ⟨.hbm, 1355, rfl⟩
abbrev main_v845 : Ref sig .tc := ⟨.hbm, 1356, rfl⟩
abbrev main_v846 : Ref sig .tc := ⟨.hbm, 1357, rfl⟩
abbrev main_cst_175 : Ref sig .tc := ⟨.hbm, 1358, rfl⟩
abbrev main_v847 : Ref sig .tc := ⟨.hbm, 1359, rfl⟩
abbrev main_v848 : Ref sig .tc := ⟨.hbm, 1360, rfl⟩
abbrev main_call40_v0 : Ref sig .tc := ⟨.hbm, 1361, rfl⟩
abbrev main_call40_v1 : Ref sig .tc := ⟨.hbm, 1362, rfl⟩
abbrev main_call40_v2 : Ref sig .tc := ⟨.hbm, 1363, rfl⟩
abbrev main_v849 : Ref sig .tc := ⟨.hbm, 1364, rfl⟩
abbrev main_v850 : Ref sig .tc := ⟨.hbm, 1365, rfl⟩
abbrev main_v851 : Ref sig .tc := ⟨.hbm, 1366, rfl⟩
abbrev main_v852 : Ref sig .tc := ⟨.hbm, 1367, rfl⟩
abbrev main_v853 : Ref sig .tc := ⟨.hbm, 1368, rfl⟩
abbrev main_v854 : Ref sig .tc := ⟨.hbm, 1369, rfl⟩
abbrev main_v855 : Ref sig .tc := ⟨.hbm, 1370, rfl⟩
abbrev main_v856 : Ref sig .tc := ⟨.hbm, 1371, rfl⟩
abbrev main_v857 : Ref sig .tc := ⟨.hbm, 1372, rfl⟩
abbrev main_v858 : Ref sig .tc := ⟨.hbm, 1373, rfl⟩
abbrev main_v859 : Ref sig .tc := ⟨.hbm, 1374, rfl⟩
abbrev main_v860 : Ref sig .tc := ⟨.hbm, 1375, rfl⟩
abbrev main_cst_176 : Ref sig .tc := ⟨.hbm, 1376, rfl⟩
abbrev main_v861 : Ref sig .tc := ⟨.hbm, 1377, rfl⟩
abbrev main_cst_177 : Ref sig .tc := ⟨.hbm, 1378, rfl⟩
abbrev main_v862 : Ref sig .tc := ⟨.hbm, 1379, rfl⟩
abbrev main_v863 : Ref sig .tc := ⟨.hbm, 1380, rfl⟩
abbrev main_v864 : Ref sig .tc := ⟨.hbm, 1381, rfl⟩
abbrev main_v865 : Ref sig .tc := ⟨.hbm, 1382, rfl⟩
abbrev main_c_178 : Ref sig .tc := ⟨.hbm, 1383, rfl⟩
abbrev main_c_179 : Ref sig .tc := ⟨.hbm, 1384, rfl⟩
abbrev main_call41_v0 : Ref sig .tc := ⟨.hbm, 1385, rfl⟩
abbrev main_call41_v1 : Ref sig .tc := ⟨.hbm, 1386, rfl⟩
abbrev main_call41_v2 : Ref sig .tc := ⟨.hbm, 1387, rfl⟩
abbrev main_call41_v3 : Ref sig .tc := ⟨.hbm, 1388, rfl⟩
abbrev main_call41_v4 : Ref sig .tc := ⟨.hbm, 1389, rfl⟩
abbrev main_v866 : Ref sig .tc := ⟨.hbm, 1390, rfl⟩
abbrev main_v867 : Ref sig .tc := ⟨.hbm, 1391, rfl⟩
abbrev main_v868 : Ref sig .tc := ⟨.hbm, 1392, rfl⟩
abbrev main_v869 : Ref sig .tc := ⟨.hbm, 1393, rfl⟩
abbrev main_v870 : Ref sig .tc := ⟨.hbm, 1394, rfl⟩
abbrev main_v871 : Ref sig .tc := ⟨.hbm, 1395, rfl⟩
abbrev main_v872 : Ref sig .tc := ⟨.hbm, 1396, rfl⟩
abbrev main_v873 : Ref sig .tc := ⟨.hbm, 1397, rfl⟩
abbrev main_v874 : Ref sig .tc := ⟨.hbm, 1398, rfl⟩
abbrev main_v875 : Ref sig .tc := ⟨.hbm, 1399, rfl⟩
abbrev main_v876 : Ref sig .tc := ⟨.hbm, 1400, rfl⟩
abbrev main_c_180 : Ref sig .tc := ⟨.hbm, 1401, rfl⟩
abbrev main_v877 : Ref sig .tc := ⟨.hbm, 1402, rfl⟩
abbrev main_v878 : Ref sig .tc := ⟨.hbm, 1403, rfl⟩
abbrev main_v879 : Ref sig .tc := ⟨.hbm, 1404, rfl⟩
abbrev main_v880 : Ref sig .tc := ⟨.hbm, 1405, rfl⟩
abbrev main_c_181 : Ref sig .tc := ⟨.hbm, 1406, rfl⟩
abbrev main_v881 : Ref sig .tc := ⟨.hbm, 1407, rfl⟩
abbrev main_v882 : Ref sig .tc := ⟨.hbm, 1408, rfl⟩
abbrev main_v883 : Ref sig .tc := ⟨.hbm, 1409, rfl⟩
abbrev main_v884 : Ref sig .tc := ⟨.hbm, 1410, rfl⟩
abbrev main_v885 : Ref sig .tc := ⟨.hbm, 1411, rfl⟩
abbrev main_c_182 : Ref sig .tc := ⟨.hbm, 1412, rfl⟩
abbrev main_v886 : Ref sig .tc := ⟨.hbm, 1413, rfl⟩
abbrev main_v887 : Ref sig .tc := ⟨.hbm, 1414, rfl⟩
abbrev main_v888 : Ref sig .tc := ⟨.hbm, 1415, rfl⟩
abbrev main_c_183 : Ref sig .tc := ⟨.hbm, 1416, rfl⟩
abbrev main_call42_c : Ref sig .tc := ⟨.hbm, 1417, rfl⟩
abbrev main_call42_v0 : Ref sig .tc := ⟨.hbm, 1418, rfl⟩
abbrev main_call42_c_0 : Ref sig .tc := ⟨.hbm, 1419, rfl⟩
abbrev main_call42_v1 : Ref sig .tc := ⟨.hbm, 1420, rfl⟩
abbrev main_call42_v2 : Ref sig .tc := ⟨.hbm, 1421, rfl⟩
abbrev main_call42_v3 : Ref sig .tc := ⟨.hbm, 1422, rfl⟩
abbrev main_call42_c_1 : Ref sig .tc := ⟨.hbm, 1423, rfl⟩
abbrev main_call42_v4 : Ref sig .tc := ⟨.hbm, 1424, rfl⟩
abbrev main_call42_v5 : Ref sig .tc := ⟨.hbm, 1425, rfl⟩
abbrev main_call42_c_2 : Ref sig .tc := ⟨.hbm, 1426, rfl⟩
abbrev main_call42_v6 : Ref sig .tc := ⟨.hbm, 1427, rfl⟩
abbrev main_call42_v7 : Ref sig .tc := ⟨.hbm, 1428, rfl⟩
abbrev main_call42_c_3 : Ref sig .tc := ⟨.hbm, 1429, rfl⟩
abbrev main_call42_v8 : Ref sig .tc := ⟨.hbm, 1430, rfl⟩
abbrev main_call42_v9 : Ref sig .tc := ⟨.hbm, 1431, rfl⟩
abbrev main_call42_v10 : Ref sig .tc := ⟨.hbm, 1432, rfl⟩
abbrev main_call42_v11 : Ref sig .tc := ⟨.hbm, 1433, rfl⟩
abbrev main_call42_v12 : Ref sig .tc := ⟨.hbm, 1434, rfl⟩
abbrev main_call42_v13 : Ref sig .tc := ⟨.hbm, 1435, rfl⟩
abbrev main_v889 : Ref sig .tc := ⟨.hbm, 1436, rfl⟩
abbrev main_v890 : Ref sig .tc := ⟨.hbm, 1437, rfl⟩
abbrev main_v891 : Ref sig .tc := ⟨.hbm, 1438, rfl⟩
abbrev main_v892 : Ref sig .tc := ⟨.hbm, 1439, rfl⟩
abbrev main_c_184 : Ref sig .tc := ⟨.hbm, 1440, rfl⟩
abbrev main_v893 : Ref sig .tc := ⟨.hbm, 1441, rfl⟩
abbrev main_v894 : Ref sig .tc := ⟨.hbm, 1442, rfl⟩
abbrev main_c_185 : Ref sig .tc := ⟨.hbm, 1443, rfl⟩
abbrev main_v895 : Ref sig .tc := ⟨.hbm, 1444, rfl⟩
abbrev main_v896 : Ref sig .tc := ⟨.hbm, 1445, rfl⟩
abbrev main_v897 : Ref sig .tc := ⟨.hbm, 1446, rfl⟩
abbrev main_v898 : Ref sig .tc := ⟨.hbm, 1447, rfl⟩
abbrev main_v899 : Ref sig .tc := ⟨.hbm, 1448, rfl⟩
abbrev main_v900 : Ref sig .tc := ⟨.hbm, 1449, rfl⟩
abbrev main_c_186 : Ref sig .tc := ⟨.hbm, 1450, rfl⟩
abbrev main_v901 : Ref sig .tc := ⟨.hbm, 1451, rfl⟩
abbrev main_v902 : Ref sig .tc := ⟨.hbm, 1452, rfl⟩
abbrev main_v903 : Ref sig .tc := ⟨.hbm, 1453, rfl⟩
abbrev main_v904 : Ref sig .tc := ⟨.hbm, 1454, rfl⟩
abbrev main_cst_187 : Ref sig .tc := ⟨.hbm, 1455, rfl⟩
abbrev main_v905 : Ref sig .tc := ⟨.hbm, 1456, rfl⟩
abbrev main_v906 : Ref sig .tc := ⟨.hbm, 1457, rfl⟩
abbrev main_call43_v0 : Ref sig .tc := ⟨.hbm, 1458, rfl⟩
abbrev main_call43_v1 : Ref sig .tc := ⟨.hbm, 1459, rfl⟩
abbrev main_call43_v2 : Ref sig .tc := ⟨.hbm, 1460, rfl⟩
abbrev main_v907 : Ref sig .tc := ⟨.hbm, 1461, rfl⟩
abbrev main_v908 : Ref sig .tc := ⟨.hbm, 1462, rfl⟩
abbrev main_v909 : Ref sig .tc := ⟨.hbm, 1463, rfl⟩
abbrev main_v910 : Ref sig .tc := ⟨.hbm, 1464, rfl⟩
abbrev main_v911 : Ref sig .tc := ⟨.hbm, 1465, rfl⟩
abbrev main_v912 : Ref sig .tc := ⟨.hbm, 1466, rfl⟩
abbrev main_v913 : Ref sig .tc := ⟨.hbm, 1467, rfl⟩
abbrev main_v914 : Ref sig .tc := ⟨.hbm, 1468, rfl⟩
abbrev main_v915 : Ref sig .tc := ⟨.hbm, 1469, rfl⟩
abbrev main_v916 : Ref sig .tc := ⟨.hbm, 1470, rfl⟩
abbrev main_v917 : Ref sig .tc := ⟨.hbm, 1471, rfl⟩
abbrev main_v918 : Ref sig .tc := ⟨.hbm, 1472, rfl⟩
abbrev main_cst_188 : Ref sig .tc := ⟨.hbm, 1473, rfl⟩
abbrev main_v919 : Ref sig .tc := ⟨.hbm, 1474, rfl⟩
abbrev main_v920 : Ref sig .tc := ⟨.hbm, 1475, rfl⟩
abbrev main_v921 : Ref sig .tc := ⟨.hbm, 1476, rfl⟩
abbrev main_v922 : Ref sig .tc := ⟨.hbm, 1477, rfl⟩
abbrev main_v923 : Ref sig .tc := ⟨.hbm, 1478, rfl⟩
abbrev main_v924 : Ref sig .tc := ⟨.hbm, 1479, rfl⟩
abbrev main_call44_v0 : Ref sig .tc := ⟨.hbm, 1480, rfl⟩
abbrev main_call44_cst : Ref sig .tc := ⟨.hbm, 1481, rfl⟩
abbrev main_call44_v1 : Ref sig .tc := ⟨.hbm, 1482, rfl⟩
abbrev main_call44_v2 : Ref sig .tc := ⟨.hbm, 1483, rfl⟩
abbrev main_v925 : Ref sig .tc := ⟨.hbm, 1484, rfl⟩
abbrev main_v926 : Ref sig .tc := ⟨.hbm, 1485, rfl⟩
abbrev main_v927 : Ref sig .tc := ⟨.hbm, 1486, rfl⟩
abbrev main_v928 : Ref sig .tc := ⟨.hbm, 1487, rfl⟩
abbrev main_v929 : Ref sig .tc := ⟨.hbm, 1488, rfl⟩
abbrev main_v930 : Ref sig .tc := ⟨.hbm, 1489, rfl⟩
abbrev main_v931 : Ref sig .tc := ⟨.hbm, 1490, rfl⟩
abbrev main_v932 : Ref sig .tc := ⟨.hbm, 1491, rfl⟩
abbrev main_cst_189 : Ref sig .tc := ⟨.hbm, 1492, rfl⟩
abbrev main_v933 : Ref sig .tc := ⟨.hbm, 1493, rfl⟩
abbrev main_v934 : Ref sig .tc := ⟨.hbm, 1494, rfl⟩
abbrev main_call45_cst : Ref sig .tc := ⟨.hbm, 1495, rfl⟩
abbrev main_call45_v0 : Ref sig .tc := ⟨.hbm, 1496, rfl⟩
abbrev main_call45_v1 : Ref sig .tc := ⟨.hbm, 1497, rfl⟩
abbrev main_call45_v2 : Ref sig .tc := ⟨.hbm, 1498, rfl⟩
abbrev main_call45_v3 : Ref sig .tc := ⟨.hbm, 1499, rfl⟩
abbrev main_call45_v4 : Ref sig .tc := ⟨.hbm, 1500, rfl⟩
abbrev main_call45_v5 : Ref sig .tc := ⟨.hbm, 1501, rfl⟩
abbrev main_call45_v6 : Ref sig .tc := ⟨.hbm, 1502, rfl⟩
abbrev main_call45_v7 : Ref sig .tc := ⟨.hbm, 1503, rfl⟩
abbrev main_call45_v8 : Ref sig .tc := ⟨.hbm, 1504, rfl⟩
abbrev main_call45_v9 : Ref sig .tc := ⟨.hbm, 1505, rfl⟩
abbrev main_call45_v10 : Ref sig .tc := ⟨.hbm, 1506, rfl⟩
abbrev main_call45_v11 : Ref sig .tc := ⟨.hbm, 1507, rfl⟩
abbrev main_v935 : Ref sig .tc := ⟨.hbm, 1508, rfl⟩
abbrev main_cst_190 : Ref sig .tc := ⟨.hbm, 1509, rfl⟩
abbrev main_v936 : Ref sig .tc := ⟨.hbm, 1510, rfl⟩
abbrev main_v937 : Ref sig .tc := ⟨.hbm, 1511, rfl⟩
abbrev main_v938 : Ref sig .tc := ⟨.hbm, 1512, rfl⟩
abbrev main_v939 : Ref sig .tc := ⟨.hbm, 1513, rfl⟩
abbrev main_v940 : Ref sig .tc := ⟨.hbm, 1514, rfl⟩
abbrev main_call46_v0 : Ref sig .tc := ⟨.hbm, 1515, rfl⟩
abbrev main_call46_cst : Ref sig .tc := ⟨.hbm, 1516, rfl⟩
abbrev main_call46_v1 : Ref sig .tc := ⟨.hbm, 1517, rfl⟩
abbrev main_call46_v2 : Ref sig .tc := ⟨.hbm, 1518, rfl⟩
abbrev main_v941 : Ref sig .tc := ⟨.hbm, 1519, rfl⟩
abbrev main_v942 : Ref sig .tc := ⟨.hbm, 1520, rfl⟩
abbrev main_v943 : Ref sig .tc := ⟨.hbm, 1521, rfl⟩
abbrev main_v944 : Ref sig .tc := ⟨.hbm, 1522, rfl⟩
abbrev main_v945 : Ref sig .tc := ⟨.hbm, 1523, rfl⟩
abbrev main_v946 : Ref sig .tc := ⟨.hbm, 1524, rfl⟩
abbrev main_v947 : Ref sig .tc := ⟨.hbm, 1525, rfl⟩
abbrev main_v948 : Ref sig .tc := ⟨.hbm, 1526, rfl⟩
abbrev main_v949 : Ref sig .tc := ⟨.hbm, 1527, rfl⟩

abbrev nD : Nat := 1
abbrev τ : Topo := Topo.v7x

variable {F : FTy → Type} [FloatOps F]
-- ==== Proof.Activation.lean ====
/- The activation, one number at a time: the kernel's base-two form of the softplus of sharpness 100 and the
   reference's natural form of it are the same function of an extended real. -/
module

public import Idealize.ShloMosaic.Lib.Pointwise

@[expose] public section

noncomputable section

namespace Cert.Proof

open Idealize.ShloMosaic

/-- The kernel's activation of `z`: the exponential and the logarithm to base two, rescaled. -/
def actK (z : EReal) : EReal :=
  max z 0 + (((Real.log 2) * (1 / 100) : ℝ) : EReal)
    * (Ideal.log (1 + Ideal.exp2 (((-(100 * (Real.log 2)⁻¹) : ℝ) : EReal) * max z (-z)))
      * (((Real.log 2)⁻¹ : ℝ) : EReal))

/-- The reference's activation of `z`: the softplus of `100 z`, over 100. -/
def actR (z : EReal) : EReal :=
  Ideal.div (max (100 * z) 0 + Ideal.log1p (Ideal.exp (-(max (100 * z) (-(100 * z)))))) 100

/-- The larger of two reals, as an extended real. -/
theorem coe_max_real (a b : ℝ) : ((max a b : ℝ) : EReal) = max (a : EReal) (b : EReal) :=
  EReal.coe_strictMono.monotone.map_max

/-- The two to the power of `-(100 / ln 2) a` is the exponential of `-100 a`. -/
theorem two_rpow_scaled (a : ℝ) : Real.rpow 2 (-(100 * (Real.log 2)⁻¹) * a) = Real.exp (-(100 * a)) := by
  have h2 : Real.log 2 ≠ 0 := (Real.log_pos (by norm_num)).ne'
  show (2 : ℝ) ^ (-(100 * (Real.log 2)⁻¹) * a) = _
  rw [Real.rpow_def_of_pos (by norm_num)]
  congr 1
  field_simp

theorem actK_coe (r : ℝ) :
    actK r = ((max r 0 + Real.log (1 + Real.exp (-(100 * |r|))) / 100 : ℝ) : EReal) := by
  have h2 : Real.log 2 ≠ 0 := (Real.log_pos (by norm_num)).ne'
  have hpos : (0 : ℝ) < 1 + Real.exp (-(100 * |r|)) := by positivity
  have habs : max (r : EReal) (-(r : EReal)) = ((|r| : ℝ) : EReal) := by
    rw [← EReal.coe_neg, ← coe_max_real]; rfl
  have hone : (1 : EReal) = ((1 : ℝ) : EReal) := rfl
  have hzero : (0 : EReal) = ((0 : ℝ) : EReal) := rfl
  unfold actK
  rw [habs, ← EReal.coe_mul, Ideal.exp2_coe, two_rpow_scaled, hone, ← EReal.coe_add, Ideal.log_coe,
    if_neg (not_le.mpr hpos), hzero, ← coe_max_real, ← EReal.coe_mul, ← EReal.coe_mul, ← EReal.coe_add]
  congr 2
  field_simp

theorem actR_coe (r : ℝ) :
    actR r = ((max r 0 + Real.log (1 + Real.exp (-(100 * |r|))) / 100 : ℝ) : EReal) := by
  have hpos : (0 : ℝ) < 1 + Real.exp (-(100 * |r|)) := by positivity
  have hone : (1 : EReal) = ((1 : ℝ) : EReal) := rfl
  have hzero : (0 : EReal) = ((0 : ℝ) : EReal) := rfl
  have hcent : (100 : EReal) = ((100 : ℝ) : EReal) := rfl
  have habs : max (100 * r) (-(100 * r)) = 100 * |r| := by
    show |100 * r| = _
    rw [abs_mul]; norm_num
  have hmax : max (100 * r) 0 = 100 * max r 0 := by
    rw [mul_max_of_nonneg _ _ (by norm_num)]; simp
  unfold actR Ideal.log1p
  rw [hcent, ← EReal.coe_mul, ← EReal.coe_neg, ← coe_max_real, habs, ← EReal.coe_neg, Ideal.exp_coe, hone,
    ← EReal.coe_add, Ideal.log_coe, if_neg (not_le.mpr hpos), hzero, ← coe_max_real, ← EReal.coe_add, hmax,
    Ideal.div_coe (by norm_num), ← EReal.coe_mul]
  congr 1
  field_simp

/-- The two forms agree at every extended real. -/
theorem actK_eq_actR (z : EReal) : actK z = actR z := by
  have hp : (0 : ℝ) < 100 * (Real.log 2)⁻¹ := by have := Real.log_pos (show (1 : ℝ) < 2 by norm_num); positivity
  have hn : (((-(100 * (Real.log 2)⁻¹) : ℝ)) : EReal) * ⊤ = ⊥ := EReal.coe_mul_top_of_neg (by linarith)
  have hc : (100 : EReal) = ((100 : ℝ) : EReal) := rfl
  have hone : (1 : EReal) = ((1 : ℝ) : EReal) := rfl
  induction z with
  | bot =>
    have hb : (100 : EReal) * ⊥ = ⊥ := by rw [hc]; exact EReal.coe_mul_bot_of_pos (by norm_num)
    have hl : Ideal.log 1 = 0 := by rw [hone, Ideal.log_coe]; norm_num
    unfold actK actR Ideal.log1p
    simp [hb, hn, hl, Ideal.div, -EReal.coe_neg, -EReal.coe_mul]
  | top =>
    have hb : (100 : EReal) * ⊤ = ⊤ := by rw [hc]; exact EReal.coe_mul_top_of_pos (by norm_num)
    have hl : Ideal.log 1 = 0 := by rw [hone, Ideal.log_coe]; norm_num
    have hd : Ideal.div ⊤ 100 = ⊤ := by
      unfold Ideal.div
      rw [if_neg (by rw [hc]; norm_num), hc, ← EReal.coe_inv]
      exact EReal.top_mul_coe_of_pos (by norm_num)
    unfold actK actR Ideal.log1p
    simp [hb, hn, hl, hd, -EReal.coe_neg, -EReal.coe_mul]
  | coe r => rw [actK_coe, actR_coe]

end Cert.Proof

end
-- ==== Proof.Network.lean ====
/- The parts of the network both programs share, over plain extended reals: a point's coordinate moved to the cube
   of side two, and a weight-normalised row. -/
module

public import proofs.«01_k».proof.Proof.Activation

@[expose] public section

noncomputable section

namespace Cert.Proof

open Idealize.ShloMosaic

/-- A coordinate `p` of a point in the unit cube, moved to the cube from -1 to 1. -/
def enc (p : EReal) : EReal := p * Ideal.ofBits .f32 0x40000000#32 - 1

/-- Entry `c` of the row `v` scaled by `g` and divided by the row's norm. -/
def normed {n : ℕ} (g : EReal) (v : Fin n → EReal) (c : Fin n) : EReal :=
  Ideal.div (g * v c) (Ideal.sqrt (∑ x, v x * v x))

/-- The square root of a positive extended real is not zero. -/
theorem sqrt_ne_zero {x : EReal} (h : 0 < x) : Ideal.sqrt x ≠ 0 := by
  induction x with
  | bot => exact absurd h (by simp)
  | top => simp
  | coe r =>
    have hr : (0 : ℝ) < r := by exact_mod_cast h
    rw [Ideal.sqrt_coe, if_neg (not_lt.mpr hr.le)]
    have := Real.sqrt_pos.mpr hr
    exact_mod_cast this.ne'

/-- An entry of the row that is zero stays zero, the row having a positive sum of squares. -/
theorem normed_zero {n : ℕ} (g : EReal) (v : Fin n → EReal) (c : Fin n) (hpos : 0 < ∑ x, v x * v x) (hc : v c = 0) :
    normed g v c = 0 := by
  unfold normed Ideal.div
  rw [hc, mul_zero, if_neg (sqrt_ne_zero hpos), zero_mul]

/-- The kernel's hidden contraction: three coordinates and a constant one, against three weights and the bias. -/
theorem kernel_contraction (e : Fin 3 → EReal) (w : Fin 3 → EReal) (b : EReal) :
    (∑ d : Fin 4, (if h : d.val < 3 then w ⟨d.val, h⟩ else b) * (if h : d.val < 3 then e ⟨d.val, h⟩ else 1))
      = (∑ d, e d * w d) + b := by
  rw [Fin.sum_univ_castSucc]
  congr 1
  · refine Finset.sum_congr rfl fun d _ => ?_
    have hd : (Fin.castSucc d).val < 3 := d.isLt
    rw [dif_pos hd, dif_pos hd]
    exact mul_comm _ _
  · have hl : ¬ (Fin.last 3).val < 3 := by simp
    rw [dif_neg hl, dif_neg hl, mul_one]

/-- The printed word of a hundred. -/
theorem ofBits_hundred : Ideal.ofBits .f32 0x42C80000#32 = 100 := by
  simp [Ideal.ofBits, Ideal.ieee, -EReal.coe_mul]
  norm_num
  rfl

end Cert.Proof

end
-- ==== Proof.Payload.lean ====
/- What the kernel body computes from one block: at point `j` of the block, the last layer over 64 hidden values,
   each the activation of a contraction over four inputs. -/
module

public import proofs.«01_k».proof.Proof.Activation
public import proofs.«01_k».proof.Proof.Gen.KernelIdeal.Value

@[expose] public section

set_option maxRecDepth 16384

noncomputable section

namespace Cert.Proof

open Cert.KernelIdeal Cert.KernelIdeal.Gen Idealize.ShloMosaic

/-- The kernel's result at one point from its four inputs `x`, the first layer's weights `w`, the last layer's
    weights `u` and its bias `b`. -/
def mlpK (x : Fin 4 → EReal) (w : Fin 64 → Fin 4 → EReal) (u : Fin 64 → EReal) (b : EReal) : EReal :=
  (∑ k, u k * actK (∑ d, w k d * x d)) + b

/-- The stored vector at an index. -/
theorem payload_apply (x : FVec Ideal S4x65536 .bf16) (w : FVec Ideal S64x4 .bf16) (u : FVec Ideal S1x64 .f32)
    (b : EReal) (j : Fin 65536) :
    k0_pay1 (F := Ideal) x w u b (ix1 j)
      = mlpK (fun d => x (ix2 d j)) (fun k d => w (ix2 k d)) (fun k => u (ix2 0 k)) b := by
  pointwise [k0_pay1]
  unfold mlpK actK
  rfl

end Cert.Proof

end
-- ==== Proof.HostValues.lean ====
/- What the host operations before the region leave in the arrays the kernel's windows read. -/
module

public import proofs.«01_k».proof.Proof.Network
public import proofs.«01_k».proof.Proof.Payload

@[expose] public section

set_option maxRecDepth 16384

noncomputable section

namespace Cert.Proof

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The last layer's weights: the normalised row. -/
theorem V_weights2 (c : Dev nD) (k : Fin 64) :
    (V m c main_v12 : FVec Ideal S1x64 .f32) (ix2 0 k)
      = normed ((m ((c : Thread nD τ).loc main_arg6) : FVec Ideal S1 .f32) (ix1 0))
          (fun x => (m ((c : Thread nD τ).loc main_arg5) : FVec Ideal S1x64 .f32) (ix2 0 x)) k := by
  simp only [V, hostOps0, hostOps0_1, hostOps0_2, hostOps0_3, hostOps0_4, List.flatten_cons, List.flatten_nil,
    List.cons_append, List.nil_append, List.append_nil, TRef.binary, TRef.nullary, TRef.unary, TRef.toBuf, TRef.ofBuf,
    cast_eq]
  after_results_simp
  pointwise
  rfl

/-- The first layer's weights: three columns of the normalised rows, then the bias. -/
theorem V_weights1 (c : Dev nD) (k : Fin 64) (d : Fin 4) :
    (V m c main_v15 : FVec Ideal S64x4 .bf16) (ix2 k d)
      = if h : d.val < 3 then
          normed ((m ((c : Thread nD τ).loc main_arg3) : FVec Ideal S64 .f32) (ix1 k))
            (fun x => (m ((c : Thread nD τ).loc main_arg2) : FVec Ideal S64x35 .f32) (ix2 k x))
            (Fin.castAdd 32 ⟨d.val, h⟩)
        else (m ((c : Thread nD τ).loc main_arg4) : FVec Ideal S64 .f32) (ix1 k) := by
  simp only [V, hostOps0, hostOps0_1, hostOps0_2, hostOps0_3, hostOps0_4, List.flatten_cons, List.flatten_nil,
    List.cons_append, List.nil_append, List.append_nil, TRef.binary, TRef.nullary, TRef.unary, TRef.toBuf, TRef.ofBuf,
    cast_eq]
  after_results_simp
  pointwise
  after_results_simp
  pointwise
  rfl

/-- The inputs, transposed: three moved coordinates of each point, then a one. -/
theorem V_inputs (c : Dev nD) (d : Fin 4) (i : Fin 1048576) :
    (V m c main_v23 : FVec Ideal S4x1048576 .bf16) (ix2 d i)
      = if h : d.val < 3 then
          enc ((m ((c : Thread nD τ).loc main_arg0) : FVec Ideal S1048576x3 .f32) (ix2 i ⟨d.val, h⟩))
        else 1 := by
  simp only [V, hostOps0, hostOps0_1, hostOps0_2, hostOps0_3, hostOps0_4, List.flatten_cons, List.flatten_nil,
    List.cons_append, List.nil_append, List.append_nil, TRef.binary, TRef.nullary, TRef.unary, TRef.toBuf, TRef.ofBuf,
    cast_eq]
  after_results_simp
  pointwise
  rfl

end Cert.Proof

end
-- ==== Proof.KernelArray.lean ====
/- The kernel's result array: each of the 16 blocks is the network at its points, so the array is the network at
   every point. -/
module

public import proofs.«01_k».proof.Proof.HostValues

@[expose] public section

set_option maxRecDepth 16384

noncomputable section

namespace Cert.Proof

open Cert.KernelIdeal Cert.KernelIdeal.Gen Cert.KernelIdeal.Value Idealize.ShloMosaic Idealize.ShloMosaic.TcCoe
open Idealize.SL.Sem

/-- The array whose entry `i` is the network at column `i` of the inputs. -/
def netArray (x : FVec Ideal S4x1048576 .bf16) (w : FVec Ideal S64x4 .bf16) (u : FVec Ideal S1x64 .f32)
    (b : FVec Ideal S1 .f32) : FVec Ideal S1048576 .f32 :=
  fun i => mlpK (fun d => x (ix2 d (i 0))) (fun k d => w (ix2 k d)) (fun k => u (ix2 0 k)) (b (ix1 0))

theorem origin1 : (![0] : Fin 1 → Nat) = fun _ => 0 := by funext a; fin_cases a; rfl
theorem origin2 : (![0, 0] : Fin 2 → Nat) = fun _ => 0 := by funext a; fin_cases a <;> rfl

/-- What the body leaves in the output's staging buffer: its one store's payload at the four input blocks. -/
theorem staged (c : Dev nD) (i : grid0.Coords) (arg1 : Memref sig .tc .vmem S4x65536 .bf16) (h1 : arg1.IsWhole)
    (arg2 : Memref sig .tc .vmem S64x4 .bf16) (h2 : arg2.IsWhole) (arg3 : Memref sig .tc .vmem S1x64 .f32)
    (h3 : arg3.IsWhole) (arg4 : Memref sig .tc .smem S1 .f32) (h4 : arg4.IsWhole)
    (arg5 : Memref sig .tc .vmem S65536 .f32) (h5 : arg5.IsWhole) (x0 : Vec Ideal S4x65536 .bf16)
    (x1 : Vec Ideal S64x4 .bf16) (x2 : Vec Ideal S1x64 .f32) (x3 : Vec Ideal S1 .f32) :
    out0_A_4 c i arg1 h1 arg2 h2 arg3 h3 arg4 h4 arg5 h5 x0 x1 x2 x3 = k0_pay1 x0 x1 x2 (x3 (ix1 0)) := by
  unfold out0_A_4
  rw [View.read_writes_junk_eq_canon]
  show View.canon ([⟨Rect.unit ![0] S65536.size inb_S65536_S65536_0,
      k0_pay1
        (View.readAt (Elt Ideal) arg1.view (Rect.unit ![0, 0] S4x65536.size inb_S4x65536_S4x65536_0_0).toLoadRect (h1.unread x0))
        (View.readAt (Elt Ideal) arg2.view (Rect.unit ![0, 0] S64x4.size inb_S64x4_S64x4_0_0).toLoadRect (h2.unread x1))
        (View.readAt (Elt Ideal) arg3.view (Rect.unit ![0, 0] S1x64.size inb_S1x64_S1x64_0_0).toLoadRect (h3.unread x2))
        (View.readAt (Elt Ideal) arg4.view (Rect.unit (s := S1) ![0] S1.size inb_S1_S1_0).toLoadRect (h4.unread x3) _)⟩] :
      List (View.Piece (Elt Ideal) S65536 .f32)) = _
  rw [View.canon_unit_zero origin1, View.readAt_eq_ld, View.readAt_eq_ld, View.readAt_eq_ld, View.readAt_eq_ld,
    h1.read_unread, h2.read_unread, h3.read_unread, h4.read_unread, View.ld_unit_zero origin2,
    View.ld_unit_zero origin2, View.ld_unit_zero origin2]
  exact congrArg (k0_pay1 x0 x1 x2) (congrArg x3 (funext fun a => by match a with | ⟨0, _⟩ => rfl))

variable (m : (ℓ : Loc nD τ sig) → Buf (Elt Ideal) ℓ)

/-- The block indices of the five windows at grid point `t`. -/
theorem index0 : ∀ t : Fin cfg0.N, win0_0.index t (0 : Fin 2) = 0 ∧ win0_0.index t (1 : Fin 2) = t.val :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 1) = 0 := (by decide +kernel : ∀ t : Fin grid0.N, _)
theorem index4 : ∀ t : Fin cfg0.N, win0_4.index t (0 : Fin 1) = t.val := (by decide +kernel : ∀ t : Fin grid0.N, _)

/-- There are sixteen grid points. -/
theorem points_lt (t : Fin cfg0.N) : t.val < 16 := by
  have h : cfg0.N = 16 := (by decide +kernel : grid0.N = 16)
  have := t.isLt; omega

/-- The place in the whole array of place `j` of block `t`. -/
def place (t : Fin cfg0.N) (j : Fin 65536) : Fin 1048576 := ⟨t.val * 65536 + j.val, by have := points_lt t; omega⟩

/-- Block `t` of the inputs, at an entry. -/
theorem block0 (c : Dev nD) (t : Fin cfg0.N) (d : Fin 4) (j : Fin 65536) :
    (iblk m c 0 t : FVec Ideal S4x65536 .bf16) (ix2 d j)
      = (V m c main_v23 : FVec Ideal S4x1048576 .bf16) (ix2 d (place t j)) := by
  obtain ⟨e0, e1⟩ := index0 t
  refine congrArg (V m c main_v23 : FVec Ideal S4x1048576 .bf16) (funext fun a => Fin.ext ?_)
  match a with
  | ⟨0, _⟩ => show win0_0.index t (0 : Fin 2) * 4 + 1 * d.val = d.val; omega
  | ⟨1, _⟩ => show win0_0.index t (1 : Fin 2) * 65536 + 1 * j.val = t.val * 65536 + j.val; omega

/-- The whole of the first layer's weights is its every block. -/
theorem block1 (c : Dev nD) (t : Fin cfg0.N) (k : Fin 64) (d : Fin 4) :
    (iblk m c 1 t : FVec Ideal S64x4 .bf16) (ix2 k d) = (V m c main_v15 : FVec Ideal S64x4 .bf16) (ix2 k d) := by
  obtain ⟨e0, e1⟩ := index1 t
  refine congrArg (V m c main_v15 : FVec Ideal S64x4 .bf16) (funext fun a => Fin.ext ?_)
  match a with
  | ⟨0, _⟩ => show win0_1.index t (0 : Fin 2) * 64 + 1 * k.val = k.val; omega
  | ⟨1, _⟩ => show win0_1.index t (1 : Fin 2) * 4 + 1 * d.val = d.val; omega

/-- The whole of the last layer's weights is its every block. -/
theorem block2 (c : Dev nD) (t : Fin cfg0.N) (k : Fin 64) :
    (iblk m c 2 t : FVec Ideal S1x64 .f32) (ix2 0 k) = (V m c main_v12 : FVec Ideal S1x64 .f32) (ix2 0 k) := by
  obtain ⟨e0, e1⟩ := index2 t
  refine congrArg (V m c main_v12 : FVec Ideal S1x64 .f32) (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

/-- The one bias word. -/
theorem block3 (c : Dev nD) (t : Fin cfg0.N) :
    (iblk m c 3 t : FVec Ideal S1 .f32) (ix1 0) = (V m c main_arg7 : FVec Ideal S1 .f32) (ix1 0) := by
  have e0 := index3 t
  refine congrArg (V m c main_arg7 : FVec Ideal S1 .f32) (funext fun a => Fin.ext ?_)
  match a with
  | ⟨0, _⟩ => show win0_3.index t (0 : Fin 1) * 1 + 1 * 0 = 0; omega

/-- The result array over the region's input arrays. -/
abbrev netV (c : Dev nD) : FVec Ideal S1048576 .f32 :=
  netArray (V m c main_v23) (V m c main_v15) (V m c main_v12) (V m c main_arg7)

/-- What point `t` writes back is its block of the network's array. -/
theorem flushed_eq (c : Dev nD) (t : Fin cfg0.N) :
    (dats m 0 c).flushed 4 t = ((cfg0.win 4).blk t).view.read (Elt Ideal) (netV m c) := by
  rw [flushed4_A, staged]
  funext j
  have e0 := index4 t
  have hL : ((cfg0.win 4).cut (grid0.coords t) (k0_pay1 (F := Ideal) (iblk m c 0 t) (iblk m c 1 t) (iblk m c 2 t)
        ((iblk m c 3 t : FVec Ideal S1 .f32) (ix1 0)))) j
      = k0_pay1 (F := Ideal) (iblk m c 0 t) (iblk m c 1 t) (iblk m c 2 t)
        ((iblk m c 3 t : FVec Ideal S1 .f32) (ix1 0)) (ix1 (j 0)) :=
    congrArg (k0_pay1 (F := Ideal) (iblk m c 0 t) (iblk m c 1 t) (iblk m c 2 t)
        ((iblk m c 3 t : FVec Ideal S1 .f32) (ix1 0))) (funext fun a => by match a with | ⟨0, _⟩ => rfl)
  have hR : ((cfg0.win 4).blk t).view.read (Elt Ideal) (netV m c) j = netV m c (ix1 (place t (j 0))) := by
    refine congrArg (netV m c) (funext fun a => Fin.ext ?_)
    match a with
    | ⟨0, _⟩ => show win0_4.index t (0 : Fin 1) * 65536 + 1 * (j 0).val = t.val * 65536 + (j 0).val; omega
  refine hL.trans (Eq.trans ?_ hR.symm)
  refine (payload_apply _ _ _ _ (j 0)).trans ?_
  show mlpK _ _ _ _ = mlpK _ _ _ _
  simp only [block1, block2, block3]
  exact congrArg (fun x => mlpK x _ _ _) (funext fun d => block0 m c t d (j 0))

/-- Every place of the array is in a block that is written back. -/
theorem covered (i : S1048576.Idx) :
    ∃ t : Fin cfg0.N, (cfg0.win 4).flush t = true ∧ i ∈ ((cfg0.win 4).blk t).view.set := by
  have hN : cfg0.N = 16 := (by decide +kernel : grid0.N = 16)
  have hi : (i 0).val < 1048576 := (i 0).isLt
  have ht : (i 0).val / 65536 < cfg0.N := by omega
  refine ⟨⟨(i 0).val / 65536, ht⟩, flush0_4 _, ?_⟩
  have e0 := index4 ⟨(i 0).val / 65536, ht⟩
  have hmem := ((cfg0.win 4).blk (⟨(i 0).val / 65536, ht⟩ : Fin cfg0.N)).view.emb_mem_set
    (ix1 ⟨(i 0).val % 65536, Nat.mod_lt _ (by decide)⟩)
  have hidx : ((cfg0.win 4).blk (⟨(i 0).val / 65536, ht⟩ : Fin cfg0.N)).view.emb
      (ix1 ⟨(i 0).val % 65536, Nat.mod_lt _ (by decide)⟩) = i := by
    funext a; apply Fin.ext
    match a with
    | ⟨0, _⟩ =>
      show win0_4.index ⟨(i 0).val / 65536, ht⟩ (0 : Fin 1) * 65536 + 1 * ((i 0).val % 65536) = (i 0).val
      rw [e0]; show (i 0).val / 65536 * 65536 + 1 * ((i 0).val % 65536) = (i 0).val; omega
  rwa [hidx] at hmem

/-- The result array after the run. -/
theorem final (c : Dev nD) : (dats m 0 c).arrAt 4 cfg0.N = netV m c :=
  (dats m 0 c).arrAt_eq_of_cover 4 (netV m c) (fun t _ => flushed_eq m c t) covered

end Cert.Proof

end
-- ==== Proof.KernelResult.lean ====
/- The kernel's result at one point of the argument arrays, as the network with three inputs. -/
module

public import proofs.«01_k».proof.Proof.KernelArray

@[expose] public section

set_option maxRecDepth 16384

noncomputable section

namespace Cert.Proof

open Idealize.ShloMosaic Idealize.ShloMosaic.TcCoe Idealize.SL.Sem

/-- The network at point `i`: 64 hidden activations of the point's three moved coordinates, and the last layer. -/
def net (p : FVec Ideal ⟨2, ![1048576, 3]⟩ .f32) (v1 : FVec Ideal ⟨2, ![64, 35]⟩ .f32) (g1 b1 : FVec Ideal ⟨1, ![64]⟩ .f32)
    (v2 : FVec Ideal ⟨2, ![1, 64]⟩ .f32) (g2 b2 : FVec Ideal ⟨1, ![1]⟩ .f32) (i : Fin 1048576) : EReal :=
  (∑ k, normed (g2 (ix1 0)) (fun x => v2 (ix2 0 x)) k
    * actR ((∑ d : Fin 3, enc (p (ix2 i d)) * normed (g1 (ix1 k)) (fun x => v1 (ix2 k x)) (Fin.castAdd 32 d)) + b1 (ix1 k)))
  + b2 (ix1 0)

variable (m : (ℓ : Loc Cert.KernelIdeal.nD Cert.KernelIdeal.τ Cert.KernelIdeal.sig) → Buf (Elt Ideal) ℓ)

open Cert.KernelIdeal Cert.KernelIdeal.Gen in
/-- The array the kernel leaves, at point `i`. -/
theorem kernel_apply (c : Dev nD) (i : Fin 1048576) :
    netV m c (ix1 i)
      = net (m ((c : Thread nD τ).loc main_arg0)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) i := by
  refine (congr (congr (congr (congrArg mlpK (funext fun d => V_inputs m c d i))
    (funext fun k => funext fun d => V_weights1 m c k d)) (funext fun k => V_weights2 m c k))
    (congrFun (V_main_arg7 m c) (ix1 0))).trans ?_
  unfold mlpK net
  simp only [actK_eq_actR]
  congr 1
  refine Finset.sum_congr rfl fun k _ => ?_
  congr 2
  exact kernel_contraction
    (fun d => enc ((m ((c : Thread nD τ).loc main_arg0) : FVec Ideal S1048576x3 .f32) (ix2 i d)))
    (fun d => normed ((m ((c : Thread nD τ).loc main_arg3) : FVec Ideal S64 .f32) (ix1 k))
      (fun x => (m ((c : Thread nD τ).loc main_arg2) : FVec Ideal S64x35 .f32) (ix2 k x)) (Fin.castAdd 32 d)) _

end Cert.Proof

end
-- ==== Proof.ReferenceResult.lean ====
/- The reference's result at one point, where the weights of the grid's features are zero: the same network. -/
module

public import proofs.«01_k».proof.Proof.KernelResult
public import proofs.«01_k».proof.Proof.Gen.ReferenceIdeal.Run

@[expose] public section

set_option maxRecDepth 16384

noncomputable section

namespace Cert.Proof

open Cert.ReferenceIdeal Cert.ReferenceIdeal.Gen Cert.ReferenceIdeal.Value Idealize.ShloMosaic Idealize.ShloMosaic.TcCoe
open Idealize.SL.Sem Idealize.ShloMosaic.StableHlo

variable (V0 : Valuation τ sig (Elt Ideal))

/-- The grid's weights of a first layer are zero, and each of its rows has a positive sum of squares. -/
structure SphereInit (v1 : FVec Ideal ⟨2, ![64, 35]⟩ .f32) : Prop where
  grid_zero : ∀ (k : Fin 64) (x : Fin 32), v1 (ix2 k ⟨3 + x.val, by omega⟩) = (0 : EReal)
  row_pos : ∀ k : Fin 64, (0 : EReal) < ∑ x : Fin 35, v1 (ix2 k x) * v1 (ix2 k x)

/-- A hundred times the hidden value before its activation, at a point and a hidden unit: the grid's features meet
    zero weights, whatever they are. -/
theorem hidden_apply (h : SphereInit (V0 (Proc.devRef .tc main_arg2))) (i : Fin 1048576) (k : Fin 64) :
    (res_main_v934 V0 : FVec Ideal S1048576x64 .f32) (ix2 i k)
      = 100 * ((∑ d : Fin 3, enc ((V0 (Proc.devRef .tc main_arg0) : FVec Ideal S1048576x3 .f32) (ix2 i d))
          * normed ((V0 (Proc.devRef .tc main_arg3) : FVec Ideal S64 .f32) (ix1 k))
              (fun x => (V0 (Proc.devRef .tc main_arg2) : FVec Ideal S64x35 .f32) (ix2 k x)) (Fin.castAdd 32 d))
        + (V0 (Proc.devRef .tc main_arg4) : FVec Ideal S64 .f32) (ix1 k)) := by
  unfold res_main_v934
  obtain ⟨X, hX⟩ : ∃ X : FVec Ideal S1048576x32 .f32, res_main_v920 V0 = X := ⟨_, rfl⟩
  rw [hX]
  pointwise
  have hz : (∑ x : Fin 32, (X (ix2 i x) : EReal)
      * normed ((V0 (Proc.devRef .tc main_arg3) : FVec Ideal S64 .f32) (ix1 k))
          (fun x => (V0 (Proc.devRef .tc main_arg2) : FVec Ideal S64x35 .f32) (ix2 k x)) ⟨3 + x.val, by omega⟩) = 0 :=
    Finset.sum_eq_zero fun x _ => by rw [normed_zero _ _ _ (h.row_pos k) (h.grid_zero k x), mul_zero]
  refine (congrArg₂ (· * ·) ofBits_hundred (congrArg (· + _) ((congrArg (_ + ·) hz).trans (add_zero _)))).trans ?_
  rfl

/-- The result at a point. -/
theorem reference_apply (h : SphereInit (V0 (Proc.devRef .tc main_arg2))) (i : Fin 1048576) :
    (val20 V0 (Proc.devRef .tc main_v949) : FVec Ideal S1048576 .f32) (ix1 i)
      = net (V0 (Proc.devRef .tc main_arg0)) (V0 (Proc.devRef .tc main_arg2)) (V0 (Proc.devRef .tc main_arg3))
          (V0 (Proc.devRef .tc main_arg4)) (V0 (Proc.devRef .tc main_arg5)) (V0 (Proc.devRef .tc main_arg6))
          (V0 (Proc.devRef .tc main_arg7)) i := by
  refine (congrFun (val20_main_v949 V0) (ix1 i)).trans ?_
  pointwise [res_main_call45_v3, res_main_call45_cst]
  unfold net
  refine congrArg₂ (· + ·) (Finset.sum_congr rfl fun k _ => ?_) rfl
  rw [if_neg (not_not.mpr rfl), ofBits_hundred, mul_comm]
  refine congrArg₂ (· * ·) rfl ?_
  rw [hidden_apply V0 h i k]
  rfl

end Cert.Proof

end
-- ==== Proof.Precondition.lean ====
/- The precondition read back: zero weights on the grid's features, and rows with a positive sum of squares. -/
module

public import proofs.«01_k».proof.Defs
public import proofs.«01_k».proof.Proof.ReferenceResult
public import proofs.«01_k».proof.Proof.Gen.Pre_sphere_init

@[expose] public section

set_option maxRecDepth 16384

noncomputable section

namespace Cert.Proof

open Cert.KernelIdeal Idealize.ShloMosaic Idealize.ShloMosaic.TcCoe Idealize.SL.Sem

/-- A decided bit that is one: the statement decided holds. -/
theorem of_ofBool_decide {p : Prop} [Decidable p] (h : BitVec.ofBool (decide p) = 1#1) : p := by
  by_contra hp
  rw [decide_eq_false hp] at h
  exact absurd h (by decide)

variable (m : (ℓ : Loc nD τ sig) → Buf (Elt Ideal) ℓ)

/-- The precondition's two results, all ones, say what the equation needs of the first layer. -/
theorem sphereInit_of_pre (h : Cert.Pre_KernelIdeal_sphere_init m) (c : Dev nD) :
    SphereInit (m ((c : Thread nD τ).loc main_arg2)) where
  grid_zero k x := by
    have e := congrFun (h c).1 (ix2 k x)
    pointwise [Cert.Pre_sphere_init.fn] at e
    exact of_ofBool_decide e
  row_pos k := by
    have e := congrFun (h c).2 (ix1 k)
    pointwise [Cert.Pre_sphere_init.fn] at e
    exact of_ofBool_decide e

end Cert.Proof

end
-- ==== Proof.Claims.lean ====
/- The claims one by one: the three frames, the named constants, and the equality of the two results. -/
module

public import proofs.«01_k».proof.Proof.Precondition
public import proofs.«01_k».proof.Proof.Gen.Kernel.Frame

@[expose] public section

set_option maxRecDepth 16384

noncomputable section

namespace Cert.Proof

open Idealize.ShloMosaic Idealize.ShloMosaic.TcCoe Idealize.SL.Sem

theorem frame_kernel : Cert.quiescent_Kernel := fun m g _ => Cert.Kernel.Gen.frame m g

theorem frame_kernelIdeal : Cert.quiescent_KernelIdeal := fun m g _ => Cert.KernelIdeal.Gen.frame m g

theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The three constants the idealized kernel names. -/
theorem preserved : Cert.preserves_Kernel_KernelIdeal :=
  ⟨IdealRules.named_const.statement Cert.KernelIdeal.κ "nlog2e100" .f32 0xC31044FE#32 _ rfl,
    IdealRules.named_const.statement Cert.KernelIdeal.κ "inv_ln2" .f32 0x3FB8AA3B#32 _ rfl,
    IdealRules.named_const.statement Cert.KernelIdeal.κ "ln2_100" .f32 0x3BE32166#32 _ rfl⟩

/-- Under the precondition the two programs end with the same array. -/
theorem equal_results : Cert.algebraic_KernelIdeal_ReferenceIdeal_pre_sphere_init := by
  intro m g m' g' hpre hagree
  refine ⟨fun c => netV m c, ?_, ?_⟩
  · exact (θ_run Cert.KernelIdeal.defs _ _).mono (fun r h c => ⟨(h c).1.trans (final m c), (h c).2⟩)
      (Cert.KernelIdeal.Value.run_blocks (F := Ideal) m g)
  · refine (θ_run Cert.ReferenceIdeal.defs _ _).mono (fun r h c => ⟨?_, (h c).2⟩)
      (Cert.ReferenceIdeal.Value.run (F := Ideal) m' g')
    obtain ⟨a0, -, a2, a3, a4, a5, a6, a7⟩ := hagree c
    have hs : SphereInit (StableHlo.launchContents m' c (Proc.devRef .tc Cert.ReferenceIdeal.main_arg2)) := by
      have := sphereInit_of_pre m hpre c
      rw [← a2] at this
      exact this
    refine ((h c).1.trans (Cert.ReferenceIdeal.Value.val20_main_v949 (StableHlo.launchContents m' c)).symm).trans ?_
    funext i
    obtain ⟨i0, rfl⟩ : ∃ i0 : Fin 1048576, i = ix1 i0 := ⟨i 0, eq_ix1 i⟩
    refine (reference_apply _ hs i0).trans (Eq.trans ?_ (kernel_apply m c i0).symm)
    rw [← a0, ← a2, ← a3, ← a4, ← a5, ← a6, ← a7]

end Cert.Proof

end
-- ==== Proof.lean ====
/- The five claims of the certificate, from the two programs' runs, the kernel's array and the reference's result. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_sphere_init
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_sphere_init.Gen.facts,
    frame_kernel, frame_kernelIdeal, fun m g _ => frame_kernelIdeal m g trivial, frame_reference,
    fun m g _ => frame_reference m g trivial, preserved, equal_results⟩

end Cert.Proof

end
